-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_ones [hPre_finite_and_ones : Cert.Pre_finite_and_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_ones [hPre_finite_and_ones : Cert.Pre_finite_and_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_ones [hKernelIdeal : Cert.KernelIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_ones [hReferenceIdeal : Cert.ReferenceIdeal.Facts] [hPre_finite_and_ones : Cert.Pre_finite_and_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_ones [hKernelIdeal : Cert.KernelIdeal.Facts] [hReferenceIdeal : Cert.ReferenceIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_ones : Cert.Pre_finite_and_ones.Facts),
    quiescent_Kernel (hKernel := hKernel)
    ∧ quiescent_KernelIdeal (hKernelIdeal := hKernelIdeal)
    ∧ quiescent_KernelIdeal_pre_finite_and_ones (hKernelIdeal := hKernelIdeal) (hPre_finite_and_ones := hPre_finite_and_ones)
    ∧ quiescent_ReferenceIdeal (hReferenceIdeal := hReferenceIdeal)
    ∧ quiescent_ReferenceIdeal_pre_finite_and_ones (hReferenceIdeal := hReferenceIdeal) (hPre_finite_and_ones := hPre_finite_and_ones)
    ∧ preserves_Kernel_KernelIdeal
    ∧ algebraic_KernelIdeal_ReferenceIdeal_pre_finite_and_ones (hKernelIdeal := hKernelIdeal) (hReferenceIdeal := hReferenceIdeal) (hPre_finite_and_ones := hPre_finite_and_ones)
-- ==== Pre_finite_and_ones.lean ====
abbrev S2x8x16384x128 : Shape := ⟨4, ![2, 8, 16384, 128]⟩
abbrev S_ : Shape := ⟨0, ![]⟩

class Facts : Prop where
  bitsLt_bf16_f32 : FTy.bits .bf16 < FTy.bits .f32
  bcast_S_S2x8x16384x128 : S_.BroadcastsInDim S2x8x16384x128 (![] : Fin 0 → Fin S2x8x16384x128.rank)

variable [Facts]

def fn_where {F : FTy → Type} [FloatOps F] (arg0 : IVec S2x8x16384x128 1) (arg1 : IVec S_ 32) (arg2 : IVec S_ 32) : IVec S2x8x16384x128 32 :=
  let v0 : IVec S2x8x16384x128 32 := broadcastInDim S2x8x16384x128 ![] bcast_S_S2x8x16384x128 arg1
  let v1 : IVec S2x8x16384x128 32 := broadcastInDim S2x8x16384x128 ![] bcast_S_S2x8x16384x128 arg2
  let v2 : IVec S2x8x16384x128 32 := select arg0 v0 v1
  v2

def fn_part1 {F : FTy → Type} [FloatOps F] (main_arg2 : FVec F S2x8x16384x128 .bf16) (main_v8 : IVec S2x8x16384x128 1) (main_v17 : IVec S2x8x16384x128 1) : IVec S2x8x16384x128 1 :=
  let main_v18 : FVec F S2x8x16384x128 .f32 := (extf .f32 · bitsLt_bf16_f32) main_arg2
  let main_cst_4 : FVec F S_ .f32 := constant S_ .f32 0x3F800000#32
  let main_v19 : FVec F S2x8x16384x128 .f32 := broadcastInDim S2x8x16384x128 ![] bcast_S_S2x8x16384x128 main_cst_4
  let main_v20 : IVec S2x8x16384x128 1 := cmpf .oeq main_v18 main_v19
  let main_v21 : IVec S2x8x16384x128 1 := noti main_v17
  let main_v22 : IVec S2x8x16384x128 1 := ori main_v20 main_v21
  let main_v23 : IVec S2x8x16384x128 1 := andi main_v8 main_v22
  main_v23

def fn {F : FTy → Type} [FloatOps F] (main_arg0 : FVec F S2x8x16384x128 .bf16) (main_arg1 : FVec F S2x8x16384x128 .bf16) (main_arg2 : FVec F S2x8x16384x128 .bf16) : IVec S2x8x16384x128 1 :=
  let main_v0 : FVec F S2x8x16384x128 .f32 := (extf .f32 · bitsLt_bf16_f32) main_arg0
  let main_v1 : FVec F S2x8x16384x128 .f32 := Host.absf main_v0
  let main_cst : FVec F S_ .f32 := constant S_ .f32 0x7F800000#32
  let main_v2 : FVec F S2x8x16384x128 .f32 := broadcastInDim S2x8x16384x128 ![] bcast_S_S2x8x16384x128 main_cst
  let main_v3 : IVec S2x8x16384x128 1 := cmpf .olt main_v1 main_v2
  let main_v4 : FVec F S2x8x16384x128 .f32 := (extf .f32 · bitsLt_bf16_f32) main_arg1
  let main_v5 : FVec F S2x8x16384x128 .f32 := Host.absf main_v4
  let main_cst_0 : FVec F S_ .f32 := constant S_ .f32 0x7F800000#32
  let main_v6 : FVec F S2x8x16384x128 .f32 := broadcastInDim S2x8x16384x128 ![] bcast_S_S2x8x16384x128 main_cst_0
  let main_v7 : IVec S2x8x16384x128 1 := cmpf .olt main_v5 main_v6
  let main_v8 : IVec S2x8x16384x128 1 := andi main_v3 main_v7
  let main_v9 : IVec S2x8x16384x128 32 := iotaInDim S2x8x16384x128 32 1
  let main_v10 : IVec S2x8x16384x128 32 := iotaInDim S2x8x16384x128 32 3
  let main_c : IVec S_ 32 := constantI S_ 32 1#32
  let main_v11 : IVec S2x8x16384x128 32 := broadcastInDim S2x8x16384x128 ![] bcast_S_S2x8x16384x128 main_c
  let main_v12 : IVec S2x8x16384x128 32 := andi main_v9 main_v11
  let main_c_1 : IVec S_ 32 := constantI S_ 32 1#32
  let main_v13 : IVec S2x8x16384x128 32 := broadcastInDim S2x8x16384x128 ![] bcast_S_S2x8x16384x128 main_c_1
  let main_v14 : IVec S2x8x16384x128 1 := cmpi .eq main_v12 main_v13
  let main_c_2 : IVec S_ 32 := constantI S_ 32 0#32
  let main_c_3 : IVec S_ 32 := constantI S_ 32 64#32
  let main_v15 : IVec S2x8x16384x128 32 := fn_where (F := F) main_v14 main_c_2 main_c_3
  let main_v16 : IVec S2x8x16384x128 32 := id main_v15
  let main_v17 : IVec S2x8x16384x128 1 := cmpi .eq main_v10 main_v16
  fn_part1 (F := F) main_arg2 main_v8 main_v17
-- ==== Kernel.lean ====
abbrev S2x8x16384x128 : Shape := ⟨4, ![2, 8, 16384, 128]⟩
abbrev S1x1x16384x128 : Shape := ⟨4, ![1, 1, 16384, 128]⟩
abbrev S2x512x512 : Shape := ⟨3, ![2, 512, 512]⟩
abbrev S512x128 : Shape := ⟨2, ![512, 128]⟩
abbrev S512x512 : Shape := ⟨2, ![512, 512]⟩
abbrev S1x512x512 : Shape := ⟨3, ![1, 512, 512]⟩
abbrev S1x1x512x128 : Shape := ⟨4, ![1, 1, 512, 128]⟩
abbrev S512x1 : Shape := ⟨2, ![512, 1]⟩
abbrev S1x64x128 : Shape := ⟨3, ![1, 64, 128]⟩
abbrev S64x128 : Shape := ⟨2, ![64, 128]⟩
abbrev S64 : Shape := ⟨1, ![64]⟩
abbrev S64x1 : Shape := ⟨2, ![64, 1]⟩

abbrev nBuf : Space → Nat
  | .hbm => 4
  | .vmem => 13
  | .smem => 0
  | _ => 0

abbrev bufTy : (tb : Table) → Fin (tcTables nBuf tb) → BufTy
  | .hbm, ⟨0, _⟩ => ⟨S2x8x16384x128, .bf16⟩
  | .hbm, ⟨1, _⟩ => ⟨S2x8x16384x128, .bf16⟩
  | .hbm, ⟨2, _⟩ => ⟨S2x8x16384x128, .bf16⟩
  | .hbm, ⟨3, _⟩ => ⟨S2x8x16384x128, .bf16⟩
  | .local _ .vmem, ⟨0, _⟩ => ⟨S1x1x16384x128, .bf16⟩
  | .local _ .vmem, ⟨1, _⟩ => ⟨S1x1x16384x128, .bf16⟩
  | .local _ .vmem, ⟨2, _⟩ => ⟨S1x1x16384x128, .bf16⟩
  | .local _ .vmem, ⟨3, _⟩ => ⟨S1x1x16384x128, .bf16⟩
  | .local _ .vmem, ⟨4, _⟩ => ⟨S1x1x16384x128, .bf16⟩
  | .local _ .vmem, ⟨5, _⟩ => ⟨S1x1x16384x128, .bf16⟩
  | .local _ .vmem, ⟨6, _⟩ => ⟨S1x1x16384x128, .bf16⟩
  | .local _ .vmem, ⟨7, _⟩ => ⟨S1x1x16384x128, .bf16⟩
  | .local _ .vmem, ⟨8, _⟩ => ⟨S2x512x512, .f32⟩
  | .local _ .vmem, ⟨9, _⟩ => ⟨S2x512x512, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | _, _ => ⟨S2x8x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_mult1 : BitVec 32 :=
  let c0_i32_14 : BitVec 32 := 0#32
  c0_i32_14
def k0_mult2 : BitVec 32 :=
  let c0_i32_15 : BitVec 32 := 0#32
  c0_i32_15
@[reducible] def k0_t1_loop : Scf.Loop 32 :=
  let c0_i32_26 : BitVec 32 := 0#32
  let c32_i32 : BitVec 32 := 32#32
  let v39 : BitVec 32 := Scalar.addi c0_i32_26 c32_i32
  let c1_i32_27 : BitVec 32 := 1#32
  ⟨c0_i32_26, v39, c1_i32_27⟩
def k0_mult3 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c0_i32_61 : BitVec 32 := 0#32
  let v93 : BitVec 1 := Scalar.cmpi .eq v92 c0_i32_61
  let c31_i32 : BitVec 32 := 31#32
  let c32_i32_62 : BitVec 32 := 32#32
  let v94 : BitVec 32 := Scalar.muli v92 c32_i32_62
  let c0_i32_63 : BitVec 32 := 0#32
  let v95 : BitVec 32 := Scalar.addi v94 c0_i32_63
  let c1_i32_64 : BitVec 32 := 1#32
  let v96 : BitVec 32 := Scalar.subi v95 c1_i32_64
  let v97 : BitVec 32 := Scalar.select v93 c31_i32 v96
  let c512_i32 : BitVec 32 := 512#32
  let v98 : BitVec 32 := Scalar.muli v97 c512_i32
  v98
def k0_off1 (k0_t1 : Fin k0_t1_loop.trips) : Fin 4 → Nat :=
  let c0_72 : Index := 0#32
  let c0_73 : Index := 0#32
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c0_i32_61 : BitVec 32 := 0#32
  let v93 : BitVec 1 := Scalar.cmpi .eq v92 c0_i32_61
  let c31_i32 : BitVec 32 := 31#32
  let c32_i32_62 : BitVec 32 := 32#32
  let v94 : BitVec 32 := Scalar.muli v92 c32_i32_62
  let c0_i32_63 : BitVec 32 := 0#32
  let v95 : BitVec 32 := Scalar.addi v94 c0_i32_63
  let c1_i32_64 : BitVec 32 := 1#32
  let v96 : BitVec 32 := Scalar.subi v95 c1_i32_64
  let v97 : BitVec 32 := Scalar.select v93 c31_i32 v96
  let c512_i32 : BitVec 32 := 512#32
  let v98 : BitVec 32 := Scalar.muli v97 c512_i32
  let v99 : BitVec 32 := v98
  let v105 : Index := Scalar.indexCast v99
  let c0_74 : Index := 0#32
  ![0, 0, v105.toNat, 0]
def k0_mult4 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c0_i32_61 : BitVec 32 := 0#32
  let v93 : BitVec 1 := Scalar.cmpi .eq v92 c0_i32_61
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c1_i32_78 : BitVec 32 := 1#32
  let v113 : BitVec 32 := Scalar.subi v82 c1_i32_78
  let c0_i32_79 : BitVec 32 := 0#32
  let v114 : BitVec 32 := Scalar.maxsi v113 c0_i32_79
  let v115 : BitVec 32 := Scalar.select v93 v114 v82
  let c512_i32_82 : BitVec 32 := 512#32
  let v123 : BitVec 32 := Scalar.muli v115 c512_i32_82
  v123
def k0_off2 (k0_t1 : Fin k0_t1_loop.trips) : Fin 4 → Nat :=
  let c0_83 : Index := 0#32
  let c0_84 : Index := 0#32
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c0_i32_61 : BitVec 32 := 0#32
  let v93 : BitVec 1 := Scalar.cmpi .eq v92 c0_i32_61
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c1_i32_78 : BitVec 32 := 1#32
  let v113 : BitVec 32 := Scalar.subi v82 c1_i32_78
  let c0_i32_79 : BitVec 32 := 0#32
  let v114 : BitVec 32 := Scalar.maxsi v113 c0_i32_79
  let v115 : BitVec 32 := Scalar.select v93 v114 v82
  let c512_i32_82 : BitVec 32 := 512#32
  let v123 : BitVec 32 := Scalar.muli v115 c512_i32_82
  let v124 : BitVec 32 := v123
  let v125 : Index := Scalar.indexCast v124
  let c0_85 : Index := 0#32
  ![0, 0, v125.toNat, 0]
def k0_mult5 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_87 : BitVec 32 := 512#32
  let v130 : BitVec 32 := Scalar.muli v82 c512_i32_87
  v130
def k0_mult6 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_62 : BitVec 32 := 32#32
  let v94 : BitVec 32 := Scalar.muli v92 c32_i32_62
  let c0_i32_63 : BitVec 32 := 0#32
  let v95 : BitVec 32 := Scalar.addi v94 c0_i32_63
  let c1_i32_86 : BitVec 32 := 1#32
  let v129 : BitVec 32 := Scalar.addi v95 c1_i32_86
  let c512_i32_88 : BitVec 32 := 512#32
  let v132 : BitVec 32 := Scalar.muli v129 c512_i32_88
  v132
def k0_off3 (k0_t1 : Fin k0_t1_loop.trips) : Fin 4 → Nat :=
  let c0_89 : Index := 0#32
  let c0_90 : Index := 0#32
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_87 : BitVec 32 := 512#32
  let v130 : BitVec 32 := Scalar.muli v82 c512_i32_87
  let v131 : BitVec 32 := v130
  let v134 : Index := Scalar.indexCast v131
  let c0_91 : Index := 0#32
  ![0, 0, v134.toNat, 0]
def k0_off4 (k0_t1 : Fin k0_t1_loop.trips) (c0_i32_63 : BitVec 32) : Fin 4 → Nat :=
  let c0_92 : Index := 0#32
  let c0_93 : Index := 0#32
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_62 : BitVec 32 := 32#32
  let v94 : BitVec 32 := Scalar.muli v92 c32_i32_62
  let v95 : BitVec 32 := Scalar.addi v94 c0_i32_63
  let c1_i32_86 : BitVec 32 := 1#32
  let v129 : BitVec 32 := Scalar.addi v95 c1_i32_86
  let c512_i32_88 : BitVec 32 := 512#32
  let v132 : BitVec 32 := Scalar.muli v129 c512_i32_88
  let v133 : BitVec 32 := v132
  let v137 : Index := Scalar.indexCast v133
  let c0_94 : Index := 0#32
  ![0, 0, v137.toNat, 0]
def k0_mult7 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_348 : BitVec 32 := 32#32
  let v544 : BitVec 32 := Scalar.muli v92 c32_i32_348
  let c1_i32_349 : BitVec 32 := 1#32
  let v545 : BitVec 32 := Scalar.addi v544 c1_i32_349
  let c1_i32_350 : BitVec 32 := 1#32
  let v546 : BitVec 32 := Scalar.subi v545 c1_i32_350
  let c512_i32_351 : BitVec 32 := 512#32
  let v547 : BitVec 32 := Scalar.muli v546 c512_i32_351
  v547
def k0_off5 (k0_t1 : Fin k0_t1_loop.trips) (c1_i32_349 : BitVec 32) : Fin 4 → Nat :=
  let c0_359 : Index := 0#32
  let c0_360 : Index := 0#32
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_348 : BitVec 32 := 32#32
  let v544 : BitVec 32 := Scalar.muli v92 c32_i32_348
  let v545 : BitVec 32 := Scalar.addi v544 c1_i32_349
  let c1_i32_350 : BitVec 32 := 1#32
  let v546 : BitVec 32 := Scalar.subi v545 c1_i32_350
  let c512_i32_351 : BitVec 32 := 512#32
  let v547 : BitVec 32 := Scalar.muli v546 c512_i32_351
  let v548 : BitVec 32 := v547
  let v554 : Index := Scalar.indexCast v548
  let c0_361 : Index := 0#32
  ![0, 0, v554.toNat, 0]
def k0_mult8 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_366 : BitVec 32 := 512#32
  let v563 : BitVec 32 := Scalar.muli v82 c512_i32_366
  v563
def k0_mult9 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_348 : BitVec 32 := 32#32
  let v544 : BitVec 32 := Scalar.muli v92 c32_i32_348
  let c1_i32_349 : BitVec 32 := 1#32
  let v545 : BitVec 32 := Scalar.addi v544 c1_i32_349
  let c1_i32_365 : BitVec 32 := 1#32
  let v562 : BitVec 32 := Scalar.addi v545 c1_i32_365
  let c512_i32_367 : BitVec 32 := 512#32
  let v565 : BitVec 32 := Scalar.muli v562 c512_i32_367
  v565
def k0_mult10 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_626 : BitVec 32 := 32#32
  let v961 : BitVec 32 := Scalar.muli v92 c32_i32_626
  let c2_i32_627 : BitVec 32 := 2#32
  let v962 : BitVec 32 := Scalar.addi v961 c2_i32_627
  let c1_i32_628 : BitVec 32 := 1#32
  let v963 : BitVec 32 := Scalar.subi v962 c1_i32_628
  let c512_i32_629 : BitVec 32 := 512#32
  let v964 : BitVec 32 := Scalar.muli v963 c512_i32_629
  v964
def k0_mult11 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_644 : BitVec 32 := 512#32
  let v980 : BitVec 32 := Scalar.muli v82 c512_i32_644
  v980
def k0_mult12 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_626 : BitVec 32 := 32#32
  let v961 : BitVec 32 := Scalar.muli v92 c32_i32_626
  let c2_i32_627 : BitVec 32 := 2#32
  let v962 : BitVec 32 := Scalar.addi v961 c2_i32_627
  let c1_i32_643 : BitVec 32 := 1#32
  let v979 : BitVec 32 := Scalar.addi v962 c1_i32_643
  let c512_i32_645 : BitVec 32 := 512#32
  let v982 : BitVec 32 := Scalar.muli v979 c512_i32_645
  v982
def k0_mult13 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_904 : BitVec 32 := 32#32
  let v1378 : BitVec 32 := Scalar.muli v92 c32_i32_904
  let c3_i32 : BitVec 32 := 3#32
  let v1379 : BitVec 32 := Scalar.addi v1378 c3_i32
  let c1_i32_905 : BitVec 32 := 1#32
  let v1380 : BitVec 32 := Scalar.subi v1379 c1_i32_905
  let c512_i32_906 : BitVec 32 := 512#32
  let v1381 : BitVec 32 := Scalar.muli v1380 c512_i32_906
  v1381
def k0_mult14 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_921 : BitVec 32 := 512#32
  let v1397 : BitVec 32 := Scalar.muli v82 c512_i32_921
  v1397
def k0_mult15 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_904 : BitVec 32 := 32#32
  let v1378 : BitVec 32 := Scalar.muli v92 c32_i32_904
  let c3_i32 : BitVec 32 := 3#32
  let v1379 : BitVec 32 := Scalar.addi v1378 c3_i32
  let c1_i32_920 : BitVec 32 := 1#32
  let v1396 : BitVec 32 := Scalar.addi v1379 c1_i32_920
  let c512_i32_922 : BitVec 32 := 512#32
  let v1399 : BitVec 32 := Scalar.muli v1396 c512_i32_922
  v1399
def k0_mult16 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_1181 : BitVec 32 := 32#32
  let v1795 : BitVec 32 := Scalar.muli v92 c32_i32_1181
  let c4_i32 : BitVec 32 := 4#32
  let v1796 : BitVec 32 := Scalar.addi v1795 c4_i32
  let c1_i32_1182 : BitVec 32 := 1#32
  let v1797 : BitVec 32 := Scalar.subi v1796 c1_i32_1182
  let c512_i32_1183 : BitVec 32 := 512#32
  let v1798 : BitVec 32 := Scalar.muli v1797 c512_i32_1183
  v1798
def k0_mult17 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_1198 : BitVec 32 := 512#32
  let v1814 : BitVec 32 := Scalar.muli v82 c512_i32_1198
  v1814
def k0_mult18 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_1181 : BitVec 32 := 32#32
  let v1795 : BitVec 32 := Scalar.muli v92 c32_i32_1181
  let c4_i32 : BitVec 32 := 4#32
  let v1796 : BitVec 32 := Scalar.addi v1795 c4_i32
  let c1_i32_1197 : BitVec 32 := 1#32
  let v1813 : BitVec 32 := Scalar.addi v1796 c1_i32_1197
  let c512_i32_1199 : BitVec 32 := 512#32
  let v1816 : BitVec 32 := Scalar.muli v1813 c512_i32_1199
  v1816
def k0_mult19 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_1458 : BitVec 32 := 32#32
  let v2212 : BitVec 32 := Scalar.muli v92 c32_i32_1458
  let c5_i32 : BitVec 32 := 5#32
  let v2213 : BitVec 32 := Scalar.addi v2212 c5_i32
  let c1_i32_1459 : BitVec 32 := 1#32
  let v2214 : BitVec 32 := Scalar.subi v2213 c1_i32_1459
  let c512_i32_1460 : BitVec 32 := 512#32
  let v2215 : BitVec 32 := Scalar.muli v2214 c512_i32_1460
  v2215
def k0_mult20 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_1475 : BitVec 32 := 512#32
  let v2231 : BitVec 32 := Scalar.muli v82 c512_i32_1475
  v2231
def k0_mult21 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_1458 : BitVec 32 := 32#32
  let v2212 : BitVec 32 := Scalar.muli v92 c32_i32_1458
  let c5_i32 : BitVec 32 := 5#32
  let v2213 : BitVec 32 := Scalar.addi v2212 c5_i32
  let c1_i32_1474 : BitVec 32 := 1#32
  let v2230 : BitVec 32 := Scalar.addi v2213 c1_i32_1474
  let c512_i32_1476 : BitVec 32 := 512#32
  let v2233 : BitVec 32 := Scalar.muli v2230 c512_i32_1476
  v2233
def k0_mult22 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_1735 : BitVec 32 := 32#32
  let v2629 : BitVec 32 := Scalar.muli v92 c32_i32_1735
  let c6_i32 : BitVec 32 := 6#32
  let v2630 : BitVec 32 := Scalar.addi v2629 c6_i32
  let c1_i32_1736 : BitVec 32 := 1#32
  let v2631 : BitVec 32 := Scalar.subi v2630 c1_i32_1736
  let c512_i32_1737 : BitVec 32 := 512#32
  let v2632 : BitVec 32 := Scalar.muli v2631 c512_i32_1737
  v2632
def k0_mult23 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_1752 : BitVec 32 := 512#32
  let v2648 : BitVec 32 := Scalar.muli v82 c512_i32_1752
  v2648
def k0_mult24 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_1735 : BitVec 32 := 32#32
  let v2629 : BitVec 32 := Scalar.muli v92 c32_i32_1735
  let c6_i32 : BitVec 32 := 6#32
  let v2630 : BitVec 32 := Scalar.addi v2629 c6_i32
  let c1_i32_1751 : BitVec 32 := 1#32
  let v2647 : BitVec 32 := Scalar.addi v2630 c1_i32_1751
  let c512_i32_1753 : BitVec 32 := 512#32
  let v2650 : BitVec 32 := Scalar.muli v2647 c512_i32_1753
  v2650
def k0_mult25 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_2012 : BitVec 32 := 32#32
  let v3046 : BitVec 32 := Scalar.muli v92 c32_i32_2012
  let c7_i32 : BitVec 32 := 7#32
  let v3047 : BitVec 32 := Scalar.addi v3046 c7_i32
  let c1_i32_2013 : BitVec 32 := 1#32
  let v3048 : BitVec 32 := Scalar.subi v3047 c1_i32_2013
  let c512_i32_2014 : BitVec 32 := 512#32
  let v3049 : BitVec 32 := Scalar.muli v3048 c512_i32_2014
  v3049
def k0_mult26 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_2029 : BitVec 32 := 512#32
  let v3065 : BitVec 32 := Scalar.muli v82 c512_i32_2029
  v3065
def k0_mult27 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_2012 : BitVec 32 := 32#32
  let v3046 : BitVec 32 := Scalar.muli v92 c32_i32_2012
  let c7_i32 : BitVec 32 := 7#32
  let v3047 : BitVec 32 := Scalar.addi v3046 c7_i32
  let c1_i32_2028 : BitVec 32 := 1#32
  let v3064 : BitVec 32 := Scalar.addi v3047 c1_i32_2028
  let c512_i32_2030 : BitVec 32 := 512#32
  let v3067 : BitVec 32 := Scalar.muli v3064 c512_i32_2030
  v3067
def k0_mult28 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_2289 : BitVec 32 := 32#32
  let v3463 : BitVec 32 := Scalar.muli v92 c32_i32_2289
  let c8_i32 : BitVec 32 := 8#32
  let v3464 : BitVec 32 := Scalar.addi v3463 c8_i32
  let c1_i32_2290 : BitVec 32 := 1#32
  let v3465 : BitVec 32 := Scalar.subi v3464 c1_i32_2290
  let c512_i32_2291 : BitVec 32 := 512#32
  let v3466 : BitVec 32 := Scalar.muli v3465 c512_i32_2291
  v3466
def k0_mult29 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_2306 : BitVec 32 := 512#32
  let v3482 : BitVec 32 := Scalar.muli v82 c512_i32_2306
  v3482
def k0_mult30 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_2289 : BitVec 32 := 32#32
  let v3463 : BitVec 32 := Scalar.muli v92 c32_i32_2289
  let c8_i32 : BitVec 32 := 8#32
  let v3464 : BitVec 32 := Scalar.addi v3463 c8_i32
  let c1_i32_2305 : BitVec 32 := 1#32
  let v3481 : BitVec 32 := Scalar.addi v3464 c1_i32_2305
  let c512_i32_2307 : BitVec 32 := 512#32
  let v3484 : BitVec 32 := Scalar.muli v3481 c512_i32_2307
  v3484
def k0_mult31 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_2566 : BitVec 32 := 32#32
  let v3880 : BitVec 32 := Scalar.muli v92 c32_i32_2566
  let c9_i32 : BitVec 32 := 9#32
  let v3881 : BitVec 32 := Scalar.addi v3880 c9_i32
  let c1_i32_2567 : BitVec 32 := 1#32
  let v3882 : BitVec 32 := Scalar.subi v3881 c1_i32_2567
  let c512_i32_2568 : BitVec 32 := 512#32
  let v3883 : BitVec 32 := Scalar.muli v3882 c512_i32_2568
  v3883
def k0_mult32 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_2583 : BitVec 32 := 512#32
  let v3899 : BitVec 32 := Scalar.muli v82 c512_i32_2583
  v3899
def k0_mult33 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_2566 : BitVec 32 := 32#32
  let v3880 : BitVec 32 := Scalar.muli v92 c32_i32_2566
  let c9_i32 : BitVec 32 := 9#32
  let v3881 : BitVec 32 := Scalar.addi v3880 c9_i32
  let c1_i32_2582 : BitVec 32 := 1#32
  let v3898 : BitVec 32 := Scalar.addi v3881 c1_i32_2582
  let c512_i32_2584 : BitVec 32 := 512#32
  let v3901 : BitVec 32 := Scalar.muli v3898 c512_i32_2584
  v3901
def k0_mult34 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_2843 : BitVec 32 := 32#32
  let v4297 : BitVec 32 := Scalar.muli v92 c32_i32_2843
  let c10_i32 : BitVec 32 := 10#32
  let v4298 : BitVec 32 := Scalar.addi v4297 c10_i32
  let c1_i32_2844 : BitVec 32 := 1#32
  let v4299 : BitVec 32 := Scalar.subi v4298 c1_i32_2844
  let c512_i32_2845 : BitVec 32 := 512#32
  let v4300 : BitVec 32 := Scalar.muli v4299 c512_i32_2845
  v4300
def k0_mult35 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_2860 : BitVec 32 := 512#32
  let v4316 : BitVec 32 := Scalar.muli v82 c512_i32_2860
  v4316
def k0_mult36 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_2843 : BitVec 32 := 32#32
  let v4297 : BitVec 32 := Scalar.muli v92 c32_i32_2843
  let c10_i32 : BitVec 32 := 10#32
  let v4298 : BitVec 32 := Scalar.addi v4297 c10_i32
  let c1_i32_2859 : BitVec 32 := 1#32
  let v4315 : BitVec 32 := Scalar.addi v4298 c1_i32_2859
  let c512_i32_2861 : BitVec 32 := 512#32
  let v4318 : BitVec 32 := Scalar.muli v4315 c512_i32_2861
  v4318
def k0_mult37 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_3120 : BitVec 32 := 32#32
  let v4714 : BitVec 32 := Scalar.muli v92 c32_i32_3120
  let c11_i32 : BitVec 32 := 11#32
  let v4715 : BitVec 32 := Scalar.addi v4714 c11_i32
  let c1_i32_3121 : BitVec 32 := 1#32
  let v4716 : BitVec 32 := Scalar.subi v4715 c1_i32_3121
  let c512_i32_3122 : BitVec 32 := 512#32
  let v4717 : BitVec 32 := Scalar.muli v4716 c512_i32_3122
  v4717
def k0_mult38 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_3137 : BitVec 32 := 512#32
  let v4733 : BitVec 32 := Scalar.muli v82 c512_i32_3137
  v4733
def k0_mult39 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_3120 : BitVec 32 := 32#32
  let v4714 : BitVec 32 := Scalar.muli v92 c32_i32_3120
  let c11_i32 : BitVec 32 := 11#32
  let v4715 : BitVec 32 := Scalar.addi v4714 c11_i32
  let c1_i32_3136 : BitVec 32 := 1#32
  let v4732 : BitVec 32 := Scalar.addi v4715 c1_i32_3136
  let c512_i32_3138 : BitVec 32 := 512#32
  let v4735 : BitVec 32 := Scalar.muli v4732 c512_i32_3138
  v4735
def k0_mult40 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_3397 : BitVec 32 := 32#32
  let v5131 : BitVec 32 := Scalar.muli v92 c32_i32_3397
  let c12_i32 : BitVec 32 := 12#32
  let v5132 : BitVec 32 := Scalar.addi v5131 c12_i32
  let c1_i32_3398 : BitVec 32 := 1#32
  let v5133 : BitVec 32 := Scalar.subi v5132 c1_i32_3398
  let c512_i32_3399 : BitVec 32 := 512#32
  let v5134 : BitVec 32 := Scalar.muli v5133 c512_i32_3399
  v5134
def k0_mult41 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_3414 : BitVec 32 := 512#32
  let v5150 : BitVec 32 := Scalar.muli v82 c512_i32_3414
  v5150
def k0_mult42 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_3397 : BitVec 32 := 32#32
  let v5131 : BitVec 32 := Scalar.muli v92 c32_i32_3397
  let c12_i32 : BitVec 32 := 12#32
  let v5132 : BitVec 32 := Scalar.addi v5131 c12_i32
  let c1_i32_3413 : BitVec 32 := 1#32
  let v5149 : BitVec 32 := Scalar.addi v5132 c1_i32_3413
  let c512_i32_3415 : BitVec 32 := 512#32
  let v5152 : BitVec 32 := Scalar.muli v5149 c512_i32_3415
  v5152
def k0_mult43 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_3674 : BitVec 32 := 32#32
  let v5548 : BitVec 32 := Scalar.muli v92 c32_i32_3674
  let c13_i32 : BitVec 32 := 13#32
  let v5549 : BitVec 32 := Scalar.addi v5548 c13_i32
  let c1_i32_3675 : BitVec 32 := 1#32
  let v5550 : BitVec 32 := Scalar.subi v5549 c1_i32_3675
  let c512_i32_3676 : BitVec 32 := 512#32
  let v5551 : BitVec 32 := Scalar.muli v5550 c512_i32_3676
  v5551
def k0_mult44 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_3691 : BitVec 32 := 512#32
  let v5567 : BitVec 32 := Scalar.muli v82 c512_i32_3691
  v5567
def k0_mult45 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_3674 : BitVec 32 := 32#32
  let v5548 : BitVec 32 := Scalar.muli v92 c32_i32_3674
  let c13_i32 : BitVec 32 := 13#32
  let v5549 : BitVec 32 := Scalar.addi v5548 c13_i32
  let c1_i32_3690 : BitVec 32 := 1#32
  let v5566 : BitVec 32 := Scalar.addi v5549 c1_i32_3690
  let c512_i32_3692 : BitVec 32 := 512#32
  let v5569 : BitVec 32 := Scalar.muli v5566 c512_i32_3692
  v5569
def k0_mult46 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_3951 : BitVec 32 := 32#32
  let v5965 : BitVec 32 := Scalar.muli v92 c32_i32_3951
  let c14_i32 : BitVec 32 := 14#32
  let v5966 : BitVec 32 := Scalar.addi v5965 c14_i32
  let c1_i32_3952 : BitVec 32 := 1#32
  let v5967 : BitVec 32 := Scalar.subi v5966 c1_i32_3952
  let c512_i32_3953 : BitVec 32 := 512#32
  let v5968 : BitVec 32 := Scalar.muli v5967 c512_i32_3953
  v5968
def k0_mult47 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_3968 : BitVec 32 := 512#32
  let v5984 : BitVec 32 := Scalar.muli v82 c512_i32_3968
  v5984
def k0_mult48 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_3951 : BitVec 32 := 32#32
  let v5965 : BitVec 32 := Scalar.muli v92 c32_i32_3951
  let c14_i32 : BitVec 32 := 14#32
  let v5966 : BitVec 32 := Scalar.addi v5965 c14_i32
  let c1_i32_3967 : BitVec 32 := 1#32
  let v5983 : BitVec 32 := Scalar.addi v5966 c1_i32_3967
  let c512_i32_3969 : BitVec 32 := 512#32
  let v5986 : BitVec 32 := Scalar.muli v5983 c512_i32_3969
  v5986
def k0_mult49 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_4228 : BitVec 32 := 32#32
  let v6382 : BitVec 32 := Scalar.muli v92 c32_i32_4228
  let c15_i32 : BitVec 32 := 15#32
  let v6383 : BitVec 32 := Scalar.addi v6382 c15_i32
  let c1_i32_4229 : BitVec 32 := 1#32
  let v6384 : BitVec 32 := Scalar.subi v6383 c1_i32_4229
  let c512_i32_4230 : BitVec 32 := 512#32
  let v6385 : BitVec 32 := Scalar.muli v6384 c512_i32_4230
  v6385
def k0_mult50 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_4245 : BitVec 32 := 512#32
  let v6401 : BitVec 32 := Scalar.muli v82 c512_i32_4245
  v6401
def k0_mult51 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_4228 : BitVec 32 := 32#32
  let v6382 : BitVec 32 := Scalar.muli v92 c32_i32_4228
  let c15_i32 : BitVec 32 := 15#32
  let v6383 : BitVec 32 := Scalar.addi v6382 c15_i32
  let c1_i32_4244 : BitVec 32 := 1#32
  let v6400 : BitVec 32 := Scalar.addi v6383 c1_i32_4244
  let c512_i32_4246 : BitVec 32 := 512#32
  let v6403 : BitVec 32 := Scalar.muli v6400 c512_i32_4246
  v6403
def k0_mult52 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_4505 : BitVec 32 := 32#32
  let v6799 : BitVec 32 := Scalar.muli v92 c32_i32_4505
  let c16_i32 : BitVec 32 := 16#32
  let v6800 : BitVec 32 := Scalar.addi v6799 c16_i32
  let c1_i32_4506 : BitVec 32 := 1#32
  let v6801 : BitVec 32 := Scalar.subi v6800 c1_i32_4506
  let c512_i32_4507 : BitVec 32 := 512#32
  let v6802 : BitVec 32 := Scalar.muli v6801 c512_i32_4507
  v6802
def k0_mult53 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_4522 : BitVec 32 := 512#32
  let v6818 : BitVec 32 := Scalar.muli v82 c512_i32_4522
  v6818
def k0_mult54 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_4505 : BitVec 32 := 32#32
  let v6799 : BitVec 32 := Scalar.muli v92 c32_i32_4505
  let c16_i32 : BitVec 32 := 16#32
  let v6800 : BitVec 32 := Scalar.addi v6799 c16_i32
  let c1_i32_4521 : BitVec 32 := 1#32
  let v6817 : BitVec 32 := Scalar.addi v6800 c1_i32_4521
  let c512_i32_4523 : BitVec 32 := 512#32
  let v6820 : BitVec 32 := Scalar.muli v6817 c512_i32_4523
  v6820
def k0_mult55 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_4782 : BitVec 32 := 32#32
  let v7216 : BitVec 32 := Scalar.muli v92 c32_i32_4782
  let c17_i32 : BitVec 32 := 17#32
  let v7217 : BitVec 32 := Scalar.addi v7216 c17_i32
  let c1_i32_4783 : BitVec 32 := 1#32
  let v7218 : BitVec 32 := Scalar.subi v7217 c1_i32_4783
  let c512_i32_4784 : BitVec 32 := 512#32
  let v7219 : BitVec 32 := Scalar.muli v7218 c512_i32_4784
  v7219
def k0_mult56 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_4799 : BitVec 32 := 512#32
  let v7235 : BitVec 32 := Scalar.muli v82 c512_i32_4799
  v7235
def k0_mult57 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_4782 : BitVec 32 := 32#32
  let v7216 : BitVec 32 := Scalar.muli v92 c32_i32_4782
  let c17_i32 : BitVec 32 := 17#32
  let v7217 : BitVec 32 := Scalar.addi v7216 c17_i32
  let c1_i32_4798 : BitVec 32 := 1#32
  let v7234 : BitVec 32 := Scalar.addi v7217 c1_i32_4798
  let c512_i32_4800 : BitVec 32 := 512#32
  let v7237 : BitVec 32 := Scalar.muli v7234 c512_i32_4800
  v7237
def k0_mult58 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_5059 : BitVec 32 := 32#32
  let v7633 : BitVec 32 := Scalar.muli v92 c32_i32_5059
  let c18_i32 : BitVec 32 := 18#32
  let v7634 : BitVec 32 := Scalar.addi v7633 c18_i32
  let c1_i32_5060 : BitVec 32 := 1#32
  let v7635 : BitVec 32 := Scalar.subi v7634 c1_i32_5060
  let c512_i32_5061 : BitVec 32 := 512#32
  let v7636 : BitVec 32 := Scalar.muli v7635 c512_i32_5061
  v7636
def k0_mult59 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_5076 : BitVec 32 := 512#32
  let v7652 : BitVec 32 := Scalar.muli v82 c512_i32_5076
  v7652
def k0_mult60 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_5059 : BitVec 32 := 32#32
  let v7633 : BitVec 32 := Scalar.muli v92 c32_i32_5059
  let c18_i32 : BitVec 32 := 18#32
  let v7634 : BitVec 32 := Scalar.addi v7633 c18_i32
  let c1_i32_5075 : BitVec 32 := 1#32
  let v7651 : BitVec 32 := Scalar.addi v7634 c1_i32_5075
  let c512_i32_5077 : BitVec 32 := 512#32
  let v7654 : BitVec 32 := Scalar.muli v7651 c512_i32_5077
  v7654
def k0_mult61 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_5336 : BitVec 32 := 32#32
  let v8050 : BitVec 32 := Scalar.muli v92 c32_i32_5336
  let c19_i32 : BitVec 32 := 19#32
  let v8051 : BitVec 32 := Scalar.addi v8050 c19_i32
  let c1_i32_5337 : BitVec 32 := 1#32
  let v8052 : BitVec 32 := Scalar.subi v8051 c1_i32_5337
  let c512_i32_5338 : BitVec 32 := 512#32
  let v8053 : BitVec 32 := Scalar.muli v8052 c512_i32_5338
  v8053
def k0_mult62 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_5353 : BitVec 32 := 512#32
  let v8069 : BitVec 32 := Scalar.muli v82 c512_i32_5353
  v8069
def k0_mult63 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_5336 : BitVec 32 := 32#32
  let v8050 : BitVec 32 := Scalar.muli v92 c32_i32_5336
  let c19_i32 : BitVec 32 := 19#32
  let v8051 : BitVec 32 := Scalar.addi v8050 c19_i32
  let c1_i32_5352 : BitVec 32 := 1#32
  let v8068 : BitVec 32 := Scalar.addi v8051 c1_i32_5352
  let c512_i32_5354 : BitVec 32 := 512#32
  let v8071 : BitVec 32 := Scalar.muli v8068 c512_i32_5354
  v8071
def k0_mult64 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_5613 : BitVec 32 := 32#32
  let v8467 : BitVec 32 := Scalar.muli v92 c32_i32_5613
  let c20_i32 : BitVec 32 := 20#32
  let v8468 : BitVec 32 := Scalar.addi v8467 c20_i32
  let c1_i32_5614 : BitVec 32 := 1#32
  let v8469 : BitVec 32 := Scalar.subi v8468 c1_i32_5614
  let c512_i32_5615 : BitVec 32 := 512#32
  let v8470 : BitVec 32 := Scalar.muli v8469 c512_i32_5615
  v8470
def k0_mult65 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_5630 : BitVec 32 := 512#32
  let v8486 : BitVec 32 := Scalar.muli v82 c512_i32_5630
  v8486
def k0_mult66 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_5613 : BitVec 32 := 32#32
  let v8467 : BitVec 32 := Scalar.muli v92 c32_i32_5613
  let c20_i32 : BitVec 32 := 20#32
  let v8468 : BitVec 32 := Scalar.addi v8467 c20_i32
  let c1_i32_5629 : BitVec 32 := 1#32
  let v8485 : BitVec 32 := Scalar.addi v8468 c1_i32_5629
  let c512_i32_5631 : BitVec 32 := 512#32
  let v8488 : BitVec 32 := Scalar.muli v8485 c512_i32_5631
  v8488
def k0_mult67 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_5890 : BitVec 32 := 32#32
  let v8884 : BitVec 32 := Scalar.muli v92 c32_i32_5890
  let c21_i32 : BitVec 32 := 21#32
  let v8885 : BitVec 32 := Scalar.addi v8884 c21_i32
  let c1_i32_5891 : BitVec 32 := 1#32
  let v8886 : BitVec 32 := Scalar.subi v8885 c1_i32_5891
  let c512_i32_5892 : BitVec 32 := 512#32
  let v8887 : BitVec 32 := Scalar.muli v8886 c512_i32_5892
  v8887
def k0_mult68 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_5907 : BitVec 32 := 512#32
  let v8903 : BitVec 32 := Scalar.muli v82 c512_i32_5907
  v8903
def k0_mult69 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_5890 : BitVec 32 := 32#32
  let v8884 : BitVec 32 := Scalar.muli v92 c32_i32_5890
  let c21_i32 : BitVec 32 := 21#32
  let v8885 : BitVec 32 := Scalar.addi v8884 c21_i32
  let c1_i32_5906 : BitVec 32 := 1#32
  let v8902 : BitVec 32 := Scalar.addi v8885 c1_i32_5906
  let c512_i32_5908 : BitVec 32 := 512#32
  let v8905 : BitVec 32 := Scalar.muli v8902 c512_i32_5908
  v8905
def k0_mult70 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_6167 : BitVec 32 := 32#32
  let v9301 : BitVec 32 := Scalar.muli v92 c32_i32_6167
  let c22_i32 : BitVec 32 := 22#32
  let v9302 : BitVec 32 := Scalar.addi v9301 c22_i32
  let c1_i32_6168 : BitVec 32 := 1#32
  let v9303 : BitVec 32 := Scalar.subi v9302 c1_i32_6168
  let c512_i32_6169 : BitVec 32 := 512#32
  let v9304 : BitVec 32 := Scalar.muli v9303 c512_i32_6169
  v9304
def k0_mult71 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_6184 : BitVec 32 := 512#32
  let v9320 : BitVec 32 := Scalar.muli v82 c512_i32_6184
  v9320
def k0_mult72 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_6167 : BitVec 32 := 32#32
  let v9301 : BitVec 32 := Scalar.muli v92 c32_i32_6167
  let c22_i32 : BitVec 32 := 22#32
  let v9302 : BitVec 32 := Scalar.addi v9301 c22_i32
  let c1_i32_6183 : BitVec 32 := 1#32
  let v9319 : BitVec 32 := Scalar.addi v9302 c1_i32_6183
  let c512_i32_6185 : BitVec 32 := 512#32
  let v9322 : BitVec 32 := Scalar.muli v9319 c512_i32_6185
  v9322
def k0_mult73 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_6444 : BitVec 32 := 32#32
  let v9718 : BitVec 32 := Scalar.muli v92 c32_i32_6444
  let c23_i32 : BitVec 32 := 23#32
  let v9719 : BitVec 32 := Scalar.addi v9718 c23_i32
  let c1_i32_6445 : BitVec 32 := 1#32
  let v9720 : BitVec 32 := Scalar.subi v9719 c1_i32_6445
  let c512_i32_6446 : BitVec 32 := 512#32
  let v9721 : BitVec 32 := Scalar.muli v9720 c512_i32_6446
  v9721
def k0_mult74 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_6461 : BitVec 32 := 512#32
  let v9737 : BitVec 32 := Scalar.muli v82 c512_i32_6461
  v9737
def k0_mult75 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_6444 : BitVec 32 := 32#32
  let v9718 : BitVec 32 := Scalar.muli v92 c32_i32_6444
  let c23_i32 : BitVec 32 := 23#32
  let v9719 : BitVec 32 := Scalar.addi v9718 c23_i32
  let c1_i32_6460 : BitVec 32 := 1#32
  let v9736 : BitVec 32 := Scalar.addi v9719 c1_i32_6460
  let c512_i32_6462 : BitVec 32 := 512#32
  let v9739 : BitVec 32 := Scalar.muli v9736 c512_i32_6462
  v9739
def k0_mult76 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_6721 : BitVec 32 := 32#32
  let v10135 : BitVec 32 := Scalar.muli v92 c32_i32_6721
  let c24_i32 : BitVec 32 := 24#32
  let v10136 : BitVec 32 := Scalar.addi v10135 c24_i32
  let c1_i32_6722 : BitVec 32 := 1#32
  let v10137 : BitVec 32 := Scalar.subi v10136 c1_i32_6722
  let c512_i32_6723 : BitVec 32 := 512#32
  let v10138 : BitVec 32 := Scalar.muli v10137 c512_i32_6723
  v10138
def k0_mult77 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_6738 : BitVec 32 := 512#32
  let v10154 : BitVec 32 := Scalar.muli v82 c512_i32_6738
  v10154
def k0_mult78 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_6721 : BitVec 32 := 32#32
  let v10135 : BitVec 32 := Scalar.muli v92 c32_i32_6721
  let c24_i32 : BitVec 32 := 24#32
  let v10136 : BitVec 32 := Scalar.addi v10135 c24_i32
  let c1_i32_6737 : BitVec 32 := 1#32
  let v10153 : BitVec 32 := Scalar.addi v10136 c1_i32_6737
  let c512_i32_6739 : BitVec 32 := 512#32
  let v10156 : BitVec 32 := Scalar.muli v10153 c512_i32_6739
  v10156
def k0_mult79 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_6998 : BitVec 32 := 32#32
  let v10552 : BitVec 32 := Scalar.muli v92 c32_i32_6998
  let c25_i32 : BitVec 32 := 25#32
  let v10553 : BitVec 32 := Scalar.addi v10552 c25_i32
  let c1_i32_6999 : BitVec 32 := 1#32
  let v10554 : BitVec 32 := Scalar.subi v10553 c1_i32_6999
  let c512_i32_7000 : BitVec 32 := 512#32
  let v10555 : BitVec 32 := Scalar.muli v10554 c512_i32_7000
  v10555
def k0_mult80 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_7015 : BitVec 32 := 512#32
  let v10571 : BitVec 32 := Scalar.muli v82 c512_i32_7015
  v10571
def k0_mult81 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_6998 : BitVec 32 := 32#32
  let v10552 : BitVec 32 := Scalar.muli v92 c32_i32_6998
  let c25_i32 : BitVec 32 := 25#32
  let v10553 : BitVec 32 := Scalar.addi v10552 c25_i32
  let c1_i32_7014 : BitVec 32 := 1#32
  let v10570 : BitVec 32 := Scalar.addi v10553 c1_i32_7014
  let c512_i32_7016 : BitVec 32 := 512#32
  let v10573 : BitVec 32 := Scalar.muli v10570 c512_i32_7016
  v10573
def k0_mult82 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_7275 : BitVec 32 := 32#32
  let v10969 : BitVec 32 := Scalar.muli v92 c32_i32_7275
  let c26_i32 : BitVec 32 := 26#32
  let v10970 : BitVec 32 := Scalar.addi v10969 c26_i32
  let c1_i32_7276 : BitVec 32 := 1#32
  let v10971 : BitVec 32 := Scalar.subi v10970 c1_i32_7276
  let c512_i32_7277 : BitVec 32 := 512#32
  let v10972 : BitVec 32 := Scalar.muli v10971 c512_i32_7277
  v10972
def k0_mult83 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_7292 : BitVec 32 := 512#32
  let v10988 : BitVec 32 := Scalar.muli v82 c512_i32_7292
  v10988
def k0_mult84 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_7275 : BitVec 32 := 32#32
  let v10969 : BitVec 32 := Scalar.muli v92 c32_i32_7275
  let c26_i32 : BitVec 32 := 26#32
  let v10970 : BitVec 32 := Scalar.addi v10969 c26_i32
  let c1_i32_7291 : BitVec 32 := 1#32
  let v10987 : BitVec 32 := Scalar.addi v10970 c1_i32_7291
  let c512_i32_7293 : BitVec 32 := 512#32
  let v10990 : BitVec 32 := Scalar.muli v10987 c512_i32_7293
  v10990
def k0_mult85 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_7552 : BitVec 32 := 32#32
  let v11386 : BitVec 32 := Scalar.muli v92 c32_i32_7552
  let c27_i32 : BitVec 32 := 27#32
  let v11387 : BitVec 32 := Scalar.addi v11386 c27_i32
  let c1_i32_7553 : BitVec 32 := 1#32
  let v11388 : BitVec 32 := Scalar.subi v11387 c1_i32_7553
  let c512_i32_7554 : BitVec 32 := 512#32
  let v11389 : BitVec 32 := Scalar.muli v11388 c512_i32_7554
  v11389
def k0_mult86 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_7569 : BitVec 32 := 512#32
  let v11405 : BitVec 32 := Scalar.muli v82 c512_i32_7569
  v11405
def k0_mult87 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_7552 : BitVec 32 := 32#32
  let v11386 : BitVec 32 := Scalar.muli v92 c32_i32_7552
  let c27_i32 : BitVec 32 := 27#32
  let v11387 : BitVec 32 := Scalar.addi v11386 c27_i32
  let c1_i32_7568 : BitVec 32 := 1#32
  let v11404 : BitVec 32 := Scalar.addi v11387 c1_i32_7568
  let c512_i32_7570 : BitVec 32 := 512#32
  let v11407 : BitVec 32 := Scalar.muli v11404 c512_i32_7570
  v11407
def k0_mult88 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_7829 : BitVec 32 := 32#32
  let v11803 : BitVec 32 := Scalar.muli v92 c32_i32_7829
  let c28_i32 : BitVec 32 := 28#32
  let v11804 : BitVec 32 := Scalar.addi v11803 c28_i32
  let c1_i32_7830 : BitVec 32 := 1#32
  let v11805 : BitVec 32 := Scalar.subi v11804 c1_i32_7830
  let c512_i32_7831 : BitVec 32 := 512#32
  let v11806 : BitVec 32 := Scalar.muli v11805 c512_i32_7831
  v11806
def k0_mult89 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_7846 : BitVec 32 := 512#32
  let v11822 : BitVec 32 := Scalar.muli v82 c512_i32_7846
  v11822
def k0_mult90 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_7829 : BitVec 32 := 32#32
  let v11803 : BitVec 32 := Scalar.muli v92 c32_i32_7829
  let c28_i32 : BitVec 32 := 28#32
  let v11804 : BitVec 32 := Scalar.addi v11803 c28_i32
  let c1_i32_7845 : BitVec 32 := 1#32
  let v11821 : BitVec 32 := Scalar.addi v11804 c1_i32_7845
  let c512_i32_7847 : BitVec 32 := 512#32
  let v11824 : BitVec 32 := Scalar.muli v11821 c512_i32_7847
  v11824
def k0_mult91 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_8106 : BitVec 32 := 32#32
  let v12220 : BitVec 32 := Scalar.muli v92 c32_i32_8106
  let c29_i32 : BitVec 32 := 29#32
  let v12221 : BitVec 32 := Scalar.addi v12220 c29_i32
  let c1_i32_8107 : BitVec 32 := 1#32
  let v12222 : BitVec 32 := Scalar.subi v12221 c1_i32_8107
  let c512_i32_8108 : BitVec 32 := 512#32
  let v12223 : BitVec 32 := Scalar.muli v12222 c512_i32_8108
  v12223
def k0_mult92 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_8123 : BitVec 32 := 512#32
  let v12239 : BitVec 32 := Scalar.muli v82 c512_i32_8123
  v12239
def k0_mult93 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_8106 : BitVec 32 := 32#32
  let v12220 : BitVec 32 := Scalar.muli v92 c32_i32_8106
  let c29_i32 : BitVec 32 := 29#32
  let v12221 : BitVec 32 := Scalar.addi v12220 c29_i32
  let c1_i32_8122 : BitVec 32 := 1#32
  let v12238 : BitVec 32 := Scalar.addi v12221 c1_i32_8122
  let c512_i32_8124 : BitVec 32 := 512#32
  let v12241 : BitVec 32 := Scalar.muli v12238 c512_i32_8124
  v12241
def k0_mult94 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_8383 : BitVec 32 := 32#32
  let v12637 : BitVec 32 := Scalar.muli v92 c32_i32_8383
  let c30_i32 : BitVec 32 := 30#32
  let v12638 : BitVec 32 := Scalar.addi v12637 c30_i32
  let c1_i32_8384 : BitVec 32 := 1#32
  let v12639 : BitVec 32 := Scalar.subi v12638 c1_i32_8384
  let c512_i32_8385 : BitVec 32 := 512#32
  let v12640 : BitVec 32 := Scalar.muli v12639 c512_i32_8385
  v12640
def k0_mult95 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c512_i32_8400 : BitVec 32 := 512#32
  let v12656 : BitVec 32 := Scalar.muli v82 c512_i32_8400
  v12656
def k0_mult96 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_8383 : BitVec 32 := 32#32
  let v12637 : BitVec 32 := Scalar.muli v92 c32_i32_8383
  let c30_i32 : BitVec 32 := 30#32
  let v12638 : BitVec 32 := Scalar.addi v12637 c30_i32
  let c1_i32_8399 : BitVec 32 := 1#32
  let v12655 : BitVec 32 := Scalar.addi v12638 c1_i32_8399
  let c512_i32_8401 : BitVec 32 := 512#32
  let v12658 : BitVec 32 := Scalar.muli v12655 c512_i32_8401
  v12658
def k0_mult97 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c32_i32_8660 : BitVec 32 := 32#32
  let v13054 : BitVec 32 := Scalar.muli v92 c32_i32_8660
  let c31_i32_8661 : BitVec 32 := 31#32
  let v13055 : BitVec 32 := Scalar.addi v13054 c31_i32_8661
  let c1_i32_8662 : BitVec 32 := 1#32
  let v13056 : BitVec 32 := Scalar.subi v13055 c1_i32_8662
  let c512_i32_8663 : BitVec 32 := 512#32
  let v13057 : BitVec 32 := Scalar.muli v13056 c512_i32_8663
  v13057
def k0_mult98 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c0_i32_8677 : BitVec 32 := 0#32
  let v13072 : BitVec 1 := Scalar.cmpi .eq v92 c0_i32_8677
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c1_i32_8678 : BitVec 32 := 1#32
  let v13073 : BitVec 32 := Scalar.addi v82 c1_i32_8678
  let c31_i32_8679 : BitVec 32 := 31#32
  let v13074 : BitVec 32 := Scalar.minsi v13073 c31_i32_8679
  let v13075 : BitVec 32 := Scalar.select v13072 v13074 v82
  let c512_i32_8682 : BitVec 32 := 512#32
  let v13078 : BitVec 32 := Scalar.muli v13075 c512_i32_8682
  v13078
def k0_mult99 (k0_t1 : Fin k0_t1_loop.trips) : BitVec 32 :=
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c0_i32_8677 : BitVec 32 := 0#32
  let v13072 : BitVec 1 := Scalar.cmpi .eq v92 c0_i32_8677
  let c0_i32_8681 : BitVec 32 := 0#32
  let c32_i32_8660 : BitVec 32 := 32#32
  let v13054 : BitVec 32 := Scalar.muli v92 c32_i32_8660
  let c31_i32_8661 : BitVec 32 := 31#32
  let v13055 : BitVec 32 := Scalar.addi v13054 c31_i32_8661
  let c1_i32_8680 : BitVec 32 := 1#32
  let v13076 : BitVec 32 := Scalar.addi v13055 c1_i32_8680
  let v13077 : BitVec 32 := Scalar.select v13072 c0_i32_8681 v13076
  let c512_i32_8683 : BitVec 32 := 512#32
  let v13080 : BitVec 32 := Scalar.muli v13077 c512_i32_8683
  v13080
def k0_off6 (k0_t1 : Fin k0_t1_loop.trips) : Fin 4 → Nat :=
  let c0_8684 : Index := 0#32
  let c0_8685 : Index := 0#32
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c0_i32_8677 : BitVec 32 := 0#32
  let v13072 : BitVec 1 := Scalar.cmpi .eq v92 c0_i32_8677
  let c0_i32_49 : BitVec 32 := 0#32
  let v67 : BitVec 1 := Scalar.cmpi .sgt arg11 c0_i32_49
  let v68 : BitVec 32 := Scalar.extui v67
  let c0_i32_50 : BitVec 32 := 0#32
  let v69 : BitVec 1 := Scalar.cmpi .slt arg11 c0_i32_50
  let v70 : BitVec 32 := Scalar.extui v69
  let v71 : BitVec 32 := Scalar.subi v68 v70
  let c1_i32_48 : BitVec 32 := 1#32
  let c0_i32_51 : BitVec 32 := 0#32
  let v72 : BitVec 1 := Scalar.cmpi .sgt c1_i32_48 c0_i32_51
  let v73 : BitVec 32 := Scalar.extui v72
  let c0_i32_52 : BitVec 32 := 0#32
  let v74 : BitVec 1 := Scalar.cmpi .slt c1_i32_48 c0_i32_52
  let v75 : BitVec 32 := Scalar.extui v74
  let v76 : BitVec 32 := Scalar.subi v73 v75
  let v77 : BitVec 1 := Scalar.cmpi .ne v71 v76
  let v78 : BitVec 32 := Scalar.remsi arg11 c1_i32_48
  let c0_i32_53 : BitVec 32 := 0#32
  let v79 : BitVec 1 := Scalar.cmpi .ne v78 c0_i32_53
  let v80 : BitVec 1 := Scalar.andi v77 v79
  let v66 : BitVec 32 := Scalar.divsi arg11 c1_i32_48
  let c1_i32_54 : BitVec 32 := 1#32
  let v81 : BitVec 32 := Scalar.subi v66 c1_i32_54
  let v82 : BitVec 32 := Scalar.select v80 v81 v66
  let c1_i32_8678 : BitVec 32 := 1#32
  let v13073 : BitVec 32 := Scalar.addi v82 c1_i32_8678
  let c31_i32_8679 : BitVec 32 := 31#32
  let v13074 : BitVec 32 := Scalar.minsi v13073 c31_i32_8679
  let v13075 : BitVec 32 := Scalar.select v13072 v13074 v82
  let c512_i32_8682 : BitVec 32 := 512#32
  let v13078 : BitVec 32 := Scalar.muli v13075 c512_i32_8682
  let v13079 : BitVec 32 := v13078
  let v13082 : Index := Scalar.indexCast v13079
  let c0_8686 : Index := 0#32
  ![0, 0, v13082.toNat, 0]
def k0_off7 (k0_t1 : Fin k0_t1_loop.trips) : Fin 4 → Nat :=
  let c0_8687 : Index := 0#32
  let c0_8688 : Index := 0#32
  let c0_i32_26 : BitVec 32 := 0#32
  let c1_i32_27 : BitVec 32 := 1#32
  let arg11 : BitVec 32 := Scf.iv c0_i32_26 c1_i32_27 k0_t1
  let c1_i32_55 : BitVec 32 := 1#32
  let c0_i32_56 : BitVec 32 := 0#32
  let v83 : BitVec 1 := Scalar.cmpi .eq c1_i32_55 c0_i32_56
  let c1_i32_57 : BitVec 32 := 1#32
  let v84 : BitVec 32 := Scalar.select v83 c1_i32_57 c1_i32_55
  let v85 : BitVec 32 := Scalar.remsi arg11 v84
  let c0_i32_59 : BitVec 32 := 0#32
  let v87 : BitVec 1 := Scalar.cmpi .slt v85 c0_i32_59
  let c0_i32_60 : BitVec 32 := 0#32
  let v88 : BitVec 1 := Scalar.cmpi .slt v84 c0_i32_60
  let v89 : BitVec 1 := Scalar.xori v87 v88
  let c0_i32_58 : BitVec 32 := 0#32
  let v86 : BitVec 1 := Scalar.cmpi .ne v85 c0_i32_58
  let v90 : BitVec 1 := Scalar.andi v89 v86
  let v91 : BitVec 32 := Scalar.addi v85 v84
  let v92 : BitVec 32 := Scalar.select v90 v91 v85
  let c0_i32_8677 : BitVec 32 := 0#32
  let v13072 : BitVec 1 := Scalar.cmpi .eq v92 c0_i32_8677
  let c0_i32_8681 : BitVec 32 := 0#32
  let c32_i32_8660 : BitVec 32 := 32#32
  let v13054 : BitVec 32 := Scalar.muli v92 c32_i32_8660
  let c31_i32_8661 : BitVec 32 := 31#32
  let v13055 : BitVec 32 := Scalar.addi v13054 c31_i32_8661
  let c1_i32_8680 : BitVec 32 := 1#32
  let v13076 : BitVec 32 := Scalar.addi v13055 c1_i32_8680
  let v13077 : BitVec 32 := Scalar.select v13072 c0_i32_8681 v13076
  let c512_i32_8683 : BitVec 32 := 512#32
  let v13080 : BitVec 32 := Scalar.muli v13077 c512_i32_8683
  let v13081 : BitVec 32 := v13080
  let v13085 : Index := Scalar.indexCast v13081
  let c0_8689 : Index := 0#32
  ![0, 0, v13085.toNat, 0]
def k0_mult100 : BitVec 32 :=
  let c15872_i32 : BitVec 32 := 15872#32
  c15872_i32
def k0_mult101 : BitVec 32 :=
  let c15872_i32_44 : BitVec 32 := 15872#32
  c15872_i32_44
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x16384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x8x16384x128 : Shape := ⟨4, ![2, 8, 16384, 128]⟩
abbrev S2x8x16384x16384 : Shape := ⟨4, ![2, 8, 16384, 16384]⟩
abbrev S_ : Shape := ⟨0, ![]⟩
abbrev S2x8x16384 : Shape := ⟨3, ![2, 8, 16384]⟩
abbrev S2x8x16384x1 : Shape := ⟨4, ![2, 8, 16384, 1]⟩

abbrev nBuf : Space → Nat
  | .hbm => 25
  | .vmem => 0
  | .smem => 0
  | _ => 0

abbrev bufTy : (tb : Table) → Fin (tcTables nBuf tb) → BufTy
  | .hbm, ⟨0, _⟩ => ⟨S2x8x16384x128, .bf16⟩
  | .hbm, ⟨1, _⟩ => ⟨S2x8x16384x128, .bf16⟩
  | .hbm, ⟨2, _⟩ => ⟨S2x8x16384x128, .bf16⟩
  | .hbm, ⟨3, _⟩ => ⟨S2x8x16384x16384, .f32⟩
  | .hbm, ⟨4, _⟩ => ⟨S_, .f32⟩
  | .hbm, ⟨5, _⟩ => ⟨S_, .f32⟩
  | .hbm, ⟨6, _⟩ => ⟨S2x8x16384x16384, .f32⟩
  | .hbm, ⟨7, _⟩ => ⟨S2x8x16384x16384, .f32⟩
  | .hbm, ⟨8, _⟩ => ⟨S_, .f32⟩
  | .hbm, ⟨9, _⟩ => ⟨S2x8x16384, .f32⟩
  | .hbm, ⟨10, _⟩ => ⟨S_, .f32⟩
  | .hbm, ⟨11, _⟩ => ⟨S2x8x16384, .f32⟩
  | .hbm, ⟨12, _⟩ => ⟨S2x8x16384, .f32⟩
  | .hbm, ⟨13, _⟩ => ⟨S2x8x16384x1, .f32⟩
  | .hbm, ⟨14, _⟩ => ⟨S2x8x16384x16384, .f32⟩
  | .hbm, ⟨15, _⟩ => ⟨S2x8x16384x16384, .f32⟩
  | .hbm, ⟨16, _⟩ => ⟨S2x8x16384x16384, .f32⟩
  | .hbm, ⟨17, _⟩ => ⟨S_, .f32⟩
  | .hbm, ⟨18, _⟩ => ⟨S2x8x16384, .f32⟩
  | .hbm, ⟨19, _⟩ => ⟨S2x8x16384x1, .f32⟩
  | .hbm, ⟨20, _⟩ => ⟨S2x8x16384x16384, .f32⟩
  | .hbm, ⟨21, _⟩ => ⟨S2x8x16384x16384, .f32⟩
  | .hbm, ⟨22, _⟩ => ⟨S2x8x16384x16384, .bf16⟩
  | .hbm, ⟨23, _⟩ => ⟨S2x8x16384x128, .f32⟩
  | .hbm, ⟨24, _⟩ => ⟨S2x8x16384x128, .bf16⟩
  | _, _ => ⟨S2x8x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Strip.lean ====
/-
  The memory operations the attention kernel is made of, as rules over whole buffers: what a load of a
  window reads and what a store of a window leaves, and the kernel's repeated pieces built from them.
-/
module

public import Idealize.ShloMosaic.Lib.Exec
public import Idealize.ShloMosaic.Lib.Tactic
public import Idealize.ShloMosaic.Lib.VecWindow
public import Idealize.ShloMosaic.Lib.Pipeline.TableIdle
public import Idealize.ShloMosaic.Lib.Pipeline.Kit
public import Idealize.ShloMosaic.PureOps

@[expose] public section

noncomputable section

namespace Cert.Proof.Attn

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {F : FTy → Type} [FloatOps F] {Λ : Labels} {U : Type} [URA U]
variable {α : Type}

local notation "𝕄" => MT nD τ sig Unit (Elt F) ℕ U ℕ

/-- The memref `m` held whole on core `c`, reading `X`. -/
abbrev own (c : Dev nD) {s : Shape} {e : EltTy} (m : Memref sig .tc .vmem s e) (X : s.Idx → Elt F e) : sProp 𝕄 :=
  m.view.loc (c : Thread nD τ) ↦[m.view.set]{fullShare} m.view.rep X

/-- A load of a window of a memref that reads `X` gives that window of `X`. -/
theorem wp_ld (defs : Defs nD τ sig (Elt F) Λ) (𝒱 : Variants) (c : Dev nD) (bd : Option 𝒱.V) (E : Set ℕ) {s : Shape} {e : EltTy}
    {m : Memref sig .tc .vmem s e} {off size : Fin s.rank → ℕ} {inb : ∀ a, off a + size a ≤ s.size a}
    {hl : m.view.LoadsAt (Rect.unit (s := s) off size inb).toLoadRect} {X : s.Idx → Elt F e}
    {k : ((Rect.unit (s := s) off size inb).shape.Idx → Elt F e) → Prog (TpuEff nD τ sig (Elt F) Λ .tc) α}
    {Q : α → sProp 𝕄} :
    (own c m X : sProp 𝕄)
      ⊢ iprop((own c m X -∗ wp frame (wpE defs 𝒱 (c : Thread nD τ) bd) E (k (VecWindow.window X off size inb)) Q)
        -∗ wp frame (wpE defs 𝒱 (c : Thread nD τ) bd) E (.op (.load m (Rect.unit (s := s) off size inb).toLoadRect hl) k) Q) := by
  have h := wp_load_rect (defs := defs) 𝒱 (c : Thread nD τ) bd E (Q := Q) (Γ := .empty) (m := m) (r := Rect.unit (s := s) off size inb) (hl := hl) (k := k) (q := fullShare)
    (S := m.view.set) (f := m.view.rep X) (by rw [View.set_slice]; exact Finset.map_subset_map.mpr (Finset.subset_univ _))
  have e : (m.access (Rect.unit (s := s) off size inb)).read (Elt F) (m.view.rep X) = VecWindow.window X off size inb :=
    View.readAt_rep_unit m.view X inb rfl inb
  rw [e] at h
  exact h

/-- A store of a window of a memref that reads `X` leaves it reading `X` with the window put there. -/
theorem wp_st (defs : Defs nD τ sig (Elt F) Λ) (𝒱 : Variants) (c : Dev nD) (bd : Option 𝒱.V) (E : Set ℕ) {s : Shape} {e : EltTy}
    {m : Memref sig .tc .vmem s e} {off size : Fin s.rank → ℕ} {inb : ∀ a, off a + size a ≤ s.size a}
    {w : (Rect.unit (s := s) off size inb).shape.Idx → Elt F e}
    {hx : (m.access (Rect.unit (s := s) off size inb)).Stores Finset.univ}
    {hm : Finset.univ = Finset.univ ∨ ∀ a, (Rect.unit (s := s) off size inb).stride a = 1} {X : s.Idx → Elt F e}
    {k : PUnit → Prog (TpuEff nD τ sig (Elt F) Λ .tc) α}
    {Q : α → sProp 𝕄} :
    (own c m X : sProp 𝕄)
      ⊢ iprop((own c m (VecWindow.put X off size w) -∗ wp frame (wpE defs 𝒱 (c : Thread nD τ) bd) E (k ⟨⟩) Q)
        -∗ wp frame (wpE defs 𝒱 (c : Thread nD τ) bd) E (.op (.store m (Rect.unit (s := s) off size inb) w Finset.univ hx hm) k) Q) := by
  have h := wp_store_writes (defs := defs) 𝒱 (c : Thread nD τ) bd E (Q := Q) (m := m) (r := Rect.unit (s := s) off size inb) (w := w) (hx := hx) (hm := hm) (k := k)
    (S := m.view.set) (f := m.view.junk) (L := [⟨Rect.whole s, X⟩]) (by rw [View.set_slice]; exact Finset.map_subset_map.mpr (Finset.subset_univ _))
  refine h.trans (wand_mono_left (wand_mono_left ?_))
  refine pointsTo_rep_of_read (c : Thread nD τ) m _ _ _ ?_
  exact View.read_writes_rep_unit m.view X inb w rfl

/-- A load of the whole of a memref that reads `X` gives `X`. -/
theorem wp_ldW (defs : Defs nD τ sig (Elt F) Λ) (𝒱 : Variants) (c : Dev nD) (bd : Option 𝒱.V) (E : Set ℕ) {s : Shape} {e : EltTy}
    {m : Memref sig .tc .vmem s e} {off : Fin s.rank → ℕ} {inb : ∀ a, off a + s.size a ≤ s.size a}
    {hl : m.view.LoadsAt (Rect.unit (s := s) off s.size inb).toLoadRect} {X : s.Idx → Elt F e}
    {k : (s.Idx → Elt F e) → Prog (TpuEff nD τ sig (Elt F) Λ .tc) α}
    {Q : α → sProp 𝕄} :
    (own c m X : sProp 𝕄)
      ⊢ iprop((own c m X -∗ wp frame (wpE defs 𝒱 (c : Thread nD τ) bd) E (k X) Q)
        -∗ wp frame (wpE defs 𝒱 (c : Thread nD τ) bd) E (.op (.load m (Rect.unit (s := s) off s.size inb).toLoadRect hl) k) Q) := by
  have h := wp_ld defs 𝒱 c bd E (m := m) (inb := inb) (hl := hl) (X := X) (k := k) (Q := Q)
  have e : VecWindow.window X off s.size inb = X := by
    rw [← View.readAt_rep_unit m.view X inb rfl inb]; exact View.readAt_rep_full m.view X inb
  rw [e] at h
  exact h

/-- A store of the whole of a memref leaves it reading what was stored. -/
theorem wp_stW (defs : Defs nD τ sig (Elt F) Λ) (𝒱 : Variants) (c : Dev nD) (bd : Option 𝒱.V) (E : Set ℕ) {s : Shape} {e : EltTy}
    {m : Memref sig .tc .vmem s e} {off : Fin s.rank → ℕ} {inb : ∀ a, off a + s.size a ≤ s.size a}
    {w : s.Idx → Elt F e}
    {hx : (m.access (Rect.unit (s := s) off s.size inb)).Stores Finset.univ}
    {hm : Finset.univ = Finset.univ ∨ ∀ a, (Rect.unit (s := s) off s.size inb).stride a = 1} {X : s.Idx → Elt F e}
    {k : PUnit → Prog (TpuEff nD τ sig (Elt F) Λ .tc) α}
    {Q : α → sProp 𝕄} :
    (own c m X : sProp 𝕄)
      ⊢ iprop((own c m w -∗ wp frame (wpE defs 𝒱 (c : Thread nD τ) bd) E (k ⟨⟩) Q)
        -∗ wp frame (wpE defs 𝒱 (c : Thread nD τ) bd) E (.op (.store m (Rect.unit (s := s) off s.size inb) w Finset.univ hx hm) k) Q) := by
  have h := wp_st defs 𝒱 c bd E (m := m) (inb := inb) (w := w) (hx := hx) (hm := hm) (X := X) (k := k) (Q := Q)
  have e : VecWindow.put X off s.size w = w := by
    rw [← View.read_writes_rep_unit m.view X inb w rfl]; exact View.read_writes_full m.view _ inb w _
  rw [e] at h
  exact h

/-! ## The shapes, the buffers, the state -/

abbrev S2x512x512 : Shape := ⟨3, ![2, 512, 512]⟩
abbrev S1x512x512 : Shape := ⟨3, ![1, 512, 512]⟩
abbrev S512x512 : Shape := ⟨2, ![512, 512]⟩
abbrev S512x128 : Shape := ⟨2, ![512, 128]⟩
abbrev S512x1 : Shape := ⟨2, ![512, 1]⟩
abbrev S64x128 : Shape := ⟨2, ![64, 128]⟩
abbrev S64 : Shape := ⟨1, ![64]⟩
abbrev S64x1 : Shape := ⟨2, ![64, 1]⟩
abbrev S1x64x128 : Shape := ⟨3, ![1, 64, 128]⟩
abbrev S1x1x16384x128 : Shape := ⟨4, ![1, 1, 16384, 128]⟩
abbrev S1x1x512x128 : Shape := ⟨4, ![1, 1, 512, 128]⟩

/-- What the shape casts, broadcasts, slices, reductions and products of the kernel ask of their shapes. -/
class Side : Prop where
  c0 : S512x128.ShapeCasts S512x128
  c1 : S1x512x512.ShapeCasts S512x512
  c2 : S512x512.ShapeCasts S1x512x512
  c3 : S1x1x512x128.ShapeCasts S512x128
  c4 : S512x128.ShapeCasts S1x1x512x128
  c5 : S1x64x128.ShapeCasts S64x128
  c6 : S64x128.ShapeCasts S1x64x128
  c7 : S64.ShapeCasts S64x1
  c8 : S64x128.ShapeCasts S64x128
  s0 : S512x128.Slices ![0, 0] S512x1
  s1 : S512x128.Slices ![0, 64] S512x1
  e0 : S512x1.Broadcasts S512x128
  e1 : S64x1.Broadcasts S64x128
  r0 : S64x128.Reduces [1] S64
  d0 : DotDims.WF S512x128 S512x128 S512x512 [1] [1] [0] [0] [] []
  d1 : DotDims.WF S512x512 S512x128 S512x128 [1] [0] [0] [1] [] []
  t0 : FTy.bits .bf16 < FTy.bits .f32

variable [Side]
open Side

/-- The product of query rows with key rows. -/
def dotQK : DotDims S512x128 S512x128 S512x512 where
  lhsContracting := [1]
  rhsContracting := [1]
  lhsNonContracting := [0]
  rhsNonContracting := [0]
  lhsBatch := []
  rhsBatch := []
  wf := d0
/-- The product of weights with value rows. -/
def dotPV : DotDims S512x512 S512x128 S512x128 where
  lhsContracting := [1]
  rhsContracting := [0]
  lhsNonContracting := [0]
  rhsNonContracting := [1]
  lhsBatch := []
  rhsBatch := []
  wf := d1

/-- What the kernel's buffers read: the scores' two slots, the weights' two slots, the running maxima, the
    rescaling factors, the accumulator, the result's block. -/
@[ext] structure St (F : FTy → Type) where
  S : S2x512x512.Idx → Elt F .f32
  P : S2x512x512.Idx → Elt F .bf16
  M : S512x128.Idx → Elt F .f32
  A : S512x128.Idx → Elt F .f32
  C : S512x128.Idx → Elt F .f32
  O : S1x1x16384x128.Idx → Elt F .bf16

/-- A window of 64 rows by 128 columns of one slot lies inside the scores. -/
abbrev In3 (o : Fin 3 → ℕ) : Prop := ∀ a, o a + S1x64x128.size a ≤ S2x512x512.size a
/-- One slot lies inside the scores. -/
abbrev InS (o : Fin 3 → ℕ) : Prop := ∀ a, o a + S1x512x512.size a ≤ S2x512x512.size a
/-- A strip of 64 rows lies inside the maxima. -/
abbrev In2 (o : Fin 2 → ℕ) : Prop := ∀ a, o a + S64x128.size a ≤ S512x128.size a
/-- The whole of the accumulator. -/
abbrev InW (o : Fin 2 → ℕ) : Prop := ∀ a, o a + S512x128.size a ≤ S512x128.size a
/-- A tile of 512 rows lies inside a block. -/
abbrev In4 (o : Fin 4 → ℕ) : Prop := ∀ a, o a + S1x1x512x128.size a ≤ S1x1x16384x128.size a

/-- Sixty-four rows by 128 columns of the scores. -/
def sblk (S : S2x512x512.Idx → Elt F .f32) (o : Fin 3 → ℕ) (i : In3 o) : FVec F S64x128 .f32 :=
  shapeCast S64x128 (VecWindow.window S o S1x64x128.size i : Vec F S1x64x128 .f32) c5

/-- The maxima a strip starts from, forgotten where a row of queries begins. -/
def restartM (w : BitVec 1) (x : FVec F S64x128 .f32) : FVec F S64x128 .f32 :=
  Scalar.select w (broadcast S64x128 (Scalar.ofBits .f32 0xFF800000#32 : F .f32)) x

/-- The maxima after a strip: the old ones against each row's largest score. -/
def newM (mo b0 b1 b2 b3 : FVec F S64x128 .f32) : FVec F S64x128 .f32 :=
  maximumf mo (broadcastTo S64x128 (shapeCast S64x1
    (multiReduction .maximumf [1] S64 (maximumf (maximumf (maximumf b0 b1) b2) b3) 0xFF800000#32 r0 (.inl rfl) rfl) c7) e1)

/-- The weights of a block of scores against the maxima. -/
def wts (b mn : FVec F S64x128 .f32) : FVec F S1x64x128 .bf16 :=
  shapeCast S1x64x128 (truncf .bf16 (exp2 (subf b mn)) t0) c6

/-- A strip's update of the state, from the maxima `mo` it starts from. -/
def stripC (st : St F) (o0 o1 o2 o3 : Fin 3 → ℕ) (om : Fin 2 → ℕ) (i0 : In3 o0) (i1 : In3 o1) (i2 : In3 o2) (i3 : In3 o3)
    (mo : FVec F S64x128 .f32) : St F :=
  let b0 := sblk st.S o0 i0
  let b1 := sblk st.S o1 i1
  let b2 := sblk st.S o2 i2
  let b3 := sblk st.S o3 i3
  let mn := newM mo b0 b1 b2 b3
  { st with
    M := VecWindow.put st.M om S64x128.size (shapeCast S64x128 mn c8 : FVec F S64x128 .f32)
    A := VecWindow.put st.A om S64x128.size (shapeCast S64x128 (exp2 (subf mo mn)) c8 : FVec F S64x128 .f32)
    P := VecWindow.put (VecWindow.put (VecWindow.put (VecWindow.put st.P o0 S1x64x128.size (wts b0 mn)) o1 S1x64x128.size (wts b1 mn))
      o2 S1x64x128.size (wts b2 mn)) o3 S1x64x128.size (wts b3 mn) }

/-- A strip: it starts from the maxima as `ρ` leaves them (`ρ` forgets them where a row of queries begins). -/
def stripF (ρ : FVec F S64x128 .f32 → FVec F S64x128 .f32) (st : St F) (o0 o1 o2 o3 : Fin 3 → ℕ) (om : Fin 2 → ℕ)
    (i0 : In3 o0) (i1 : In3 o1) (i2 : In3 o2) (i3 : In3 o3) (im : In2 om) : St F :=
  stripC st o0 o1 o2 o3 om i0 i1 i2 i3 (ρ (VecWindow.window st.M om S64x128.size im))

/-- Adding a tile's weighted values to the accumulator. -/
def accF (v : S1x1x16384x128.Idx → Elt F .bf16) (st : St F) (op : Fin 3 → ℕ) (ov : Fin 4 → ℕ) (ip : InS op) (iv : In4 ov) : St F :=
  { st with
    C := shapeCast S512x128 (addf (mulf (st.C : FVec F S512x128 .f32) st.A)
      (matmul dotPV none (shapeCast S512x512 (VecWindow.window st.P op S1x512x512.size ip : Vec F S1x512x512 .bf16) c1 : FVec F S512x512 .bf16)
        (shapeCast S512x128 (VecWindow.window v ov S1x1x512x128.size iv : Vec F S1x1x512x128 .bf16) c3 : FVec F S512x128 .bf16)
        (constant S512x128 .f32 0x00000000#32))) c0 }

/-- A tile's scores into a slot. -/
def scoreF (q k : S1x1x16384x128.Idx → Elt F .bf16) (st : St F) (oq ok : Fin 4 → ℕ) (os : Fin 3 → ℕ) (iq : In4 oq) (ik : In4 ok) : St F :=
  { st with
    S := VecWindow.put st.S os S1x512x512.size (shapeCast S1x512x512
      (matmul dotQK none (shapeCast S512x128 (VecWindow.window q oq S1x1x512x128.size iq : Vec F S1x1x512x128 .bf16) c3 : FVec F S512x128 .bf16)
        (shapeCast S512x128 (VecWindow.window k ok S1x1x512x128.size ik : Vec F S1x1x512x128 .bf16) c3 : FVec F S512x128 .bf16)
        (constant S512x512 .f32 0x00000000#32)) c2 : FVec F S1x512x512 .f32) }

/-- Writing the accumulator over its normalising column out to the result's rows. -/
def emitF (w : BitVec 1) (st : St F) (oo : Fin 4 → ℕ) : St F :=
  { st with
    O := VecWindow.put st.O oo S1x1x512x128.size (shapeCast S1x1x512x128 (truncf .bf16 (divf (st.C : FVec F S512x128 .f32)
      (broadcastTo S512x128 (Scalar.select w (extractStridedSlice S512x1 ![0, 0] (st.C : FVec F S512x128 .f32) s0)
        (extractStridedSlice S512x1 ![0, 64] (st.C : FVec F S512x128 .f32) s1)) e0)) t0) c4 : FVec F S1x1x512x128 .bf16) }

/-! ## The pieces' rules -/

variable (c : Dev nD) (a2 a3 a4 a5 : Memref sig .tc .vmem S1x1x16384x128 .bf16) (a6 : Memref sig .tc .vmem S2x512x512 .f32)
  (a7 : Memref sig .tc .vmem S2x512x512 .bf16) (a8 a9 a10 : Memref sig .tc .vmem S512x128 .f32)
  (q k v : S1x1x16384x128.Idx → Elt F .bf16)

/-- The kernel's nine buffers, held whole: the three inputs and the state. -/
def Res (st : St F) : sProp 𝕄 :=
  iprop(own c a2 q ∗ own c a3 k ∗ own c a4 v ∗ own c a5 st.O ∗ own c a6 st.S ∗ own c a7 st.P ∗ own c a8 st.M ∗ own c a9 st.A ∗ own c a10 st.C)

variable (defs : Defs nD τ sig (Elt F) Λ) (𝒱 : Variants) (bd : Option 𝒱.V) (E : Set ℕ)

local notation "𝒫" => Prog (TpuEff nD τ sig (Elt F) Λ Proc.tc) α

/-- A strip: eight loads of scores and maxima, the new maxima, factors and weights stored. -/
theorem wp_strip (ρ : FVec F S64x128 .f32 → FVec F S64x128 .f32) {st : St F} {Q : α → sProp 𝕄} {K : 𝒫} {o0 o1 o2 o3 : Fin 3 → ℕ} {om : Fin 2 → ℕ}
    {i0 i0' : In3 o0} {i1 i1' : In3 o1} {i2 i2' : In3 o2} {i3 i3' : In3 o3} {im im' : In2 om} {l0 l1 l2 l3 lm lm' la p0 p1 p2 p3}
    {hm hm' ha ha' w0 w0' w1 w1' w2 w2' w3 w3'}
    (h : (Res (τ := τ) (U := U) c a2 a3 a4 a5 a6 a7 a8 a9 a10 q k v) (stripF ρ st o0 o1 o2 o3 om i0 i1 i2 i3 im) ⊢ (wp frame (wpE defs 𝒱 (c : Thread nD τ) bd) E) K Q) :
    (Res (τ := τ) (U := U) c a2 a3 a4 a5 a6 a7 a8 a9 a10 q k v) st ⊢ (wp frame (wpE defs 𝒱 (c : Thread nD τ) bd) E)
      (.op (.load a6 (Rect.unit (s := S2x512x512) o0 S1x64x128.size i0).toLoadRect l0) fun (x0 : Vec F S1x64x128 .f32) =>
      .op (.load a6 (Rect.unit (s := S2x512x512) o1 S1x64x128.size i1).toLoadRect l1) fun (x1 : Vec F S1x64x128 .f32) =>
      .op (.load a6 (Rect.unit (s := S2x512x512) o2 S1x64x128.size i2).toLoadRect l2) fun (x2 : Vec F S1x64x128 .f32) =>
      .op (.load a6 (Rect.unit (s := S2x512x512) o3 S1x64x128.size i3).toLoadRect l3) fun (x3 : Vec F S1x64x128 .f32) =>
      .op (.load a8 (Rect.unit (s := S512x128) om S64x128.size im).toLoadRect lm) fun (xm : Vec F S64x128 .f32) =>
      .op (.load a8 (Rect.unit (s := S512x128) om S64x128.size im).toLoadRect lm') fun _ =>
      .op (.store a8 (Rect.unit (s := S512x128) om S64x128.size im) (shapeCast S64x128 (newM (ρ xm) (shapeCast S64x128 x0 c5) (shapeCast S64x128 x1 c5) (shapeCast S64x128 x2 c5) (shapeCast S64x128 x3 c5)) c8)
        Finset.univ hm hm') fun _ =>
      .op (.load a9 (Rect.unit (s := S512x128) om S64x128.size im').toLoadRect la) fun _ =>
      .op (.store a9 (Rect.unit (s := S512x128) om S64x128.size im') (shapeCast S64x128 (exp2 (subf (ρ xm) (newM (ρ xm) (shapeCast S64x128 x0 c5) (shapeCast S64x128 x1 c5) (shapeCast S64x128 x2 c5) (shapeCast S64x128 x3 c5)))) c8)
        Finset.univ ha ha') fun _ =>
      .op (.load a7 (Rect.unit (s := S2x512x512) o0 S1x64x128.size i0').toLoadRect p0) fun _ =>
      .op (.store a7 (Rect.unit (s := S2x512x512) o0 S1x64x128.size i0') (wts (shapeCast S64x128 x0 c5) (newM (ρ xm) (shapeCast S64x128 x0 c5) (shapeCast S64x128 x1 c5) (shapeCast S64x128 x2 c5) (shapeCast S64x128 x3 c5)))
        Finset.univ w0 w0') fun _ =>
      .op (.load a7 (Rect.unit (s := S2x512x512) o1 S1x64x128.size i1').toLoadRect p1) fun _ =>
      .op (.store a7 (Rect.unit (s := S2x512x512) o1 S1x64x128.size i1') (wts (shapeCast S64x128 x1 c5) (newM (ρ xm) (shapeCast S64x128 x0 c5) (shapeCast S64x128 x1 c5) (shapeCast S64x128 x2 c5) (shapeCast S64x128 x3 c5)))
        Finset.univ w1 w1') fun _ =>
      .op (.load a7 (Rect.unit (s := S2x512x512) o2 S1x64x128.size i2').toLoadRect p2) fun _ =>
      .op (.store a7 (Rect.unit (s := S2x512x512) o2 S1x64x128.size i2') (wts (shapeCast S64x128 x2 c5) (newM (ρ xm) (shapeCast S64x128 x0 c5) (shapeCast S64x128 x1 c5) (shapeCast S64x128 x2 c5) (shapeCast S64x128 x3 c5)))
        Finset.univ w2 w2') fun _ =>
      .op (.load a7 (Rect.unit (s := S2x512x512) o3 S1x64x128.size i3').toLoadRect p3) fun _ =>
      .op (.store a7 (Rect.unit (s := S2x512x512) o3 S1x64x128.size i3') (wts (shapeCast S64x128 x3 c5) (newM (ρ xm) (shapeCast S64x128 x0 c5) (shapeCast S64x128 x1 c5) (shapeCast S64x128 x2 c5) (shapeCast S64x128 x3 c5)))
        Finset.univ w3 w3') fun _ => K) Q := by
  have h' := h
  unfold Res at h' ⊢
  iintro ⟨H2, H3, H4, H5, H6, H7, H8, H9, H10⟩
  iapply (wp_ld defs 𝒱 c bd E) $$ H6; iintro H6
  iapply (wp_ld defs 𝒱 c bd E) $$ H6; iintro H6
  iapply (wp_ld defs 𝒱 c bd E) $$ H6; iintro H6
  iapply (wp_ld defs 𝒱 c bd E) $$ H6; iintro H6
  iapply (wp_ld defs 𝒱 c bd E) $$ H8; iintro H8
  iapply (wp_ld defs 𝒱 c bd E) $$ H8; iintro H8
  iapply (wp_st defs 𝒱 c bd E) $$ H8; iintro H8
  iapply (wp_ld defs 𝒱 c bd E) $$ H9; iintro H9
  iapply (wp_st defs 𝒱 c bd E) $$ H9; iintro H9
  iapply (wp_ld defs 𝒱 c bd E) $$ H7; iintro H7
  iapply (wp_st defs 𝒱 c bd E) $$ H7; iintro H7
  iapply (wp_ld defs 𝒱 c bd E) $$ H7; iintro H7
  iapply (wp_st defs 𝒱 c bd E) $$ H7; iintro H7
  iapply (wp_ld defs 𝒱 c bd E) $$ H7; iintro H7
  iapply (wp_st defs 𝒱 c bd E) $$ H7; iintro H7
  iapply (wp_ld defs 𝒱 c bd E) $$ H7; iintro H7
  iapply (wp_st defs 𝒱 c bd E) $$ H7; iintro H7
  iapply h'
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The accumulator rescaled, the weights' slot times a tile of values added. -/
theorem wp_acc {st : St F} {Q : α → sProp 𝕄} {K : 𝒫} {oa oc : Fin 2 → ℕ} {op : Fin 3 → ℕ} {ov : Fin 4 → ℕ} {ia : InW oa} {ic : InW oc} {ip : InS op} {iv : In4 ov}
    {l0 l1 l2 l3 l4 h0 h1}
    (h : (Res (τ := τ) (U := U) c a2 a3 a4 a5 a6 a7 a8 a9 a10 q k v) (accF v st op ov ip iv) ⊢ (wp frame (wpE defs 𝒱 (c : Thread nD τ) bd) E) K Q) :
    (Res (τ := τ) (U := U) c a2 a3 a4 a5 a6 a7 a8 a9 a10 q k v) st ⊢ (wp frame (wpE defs 𝒱 (c : Thread nD τ) bd) E)
      (.op (.load a10 (Rect.unit (s := S512x128) oc S512x128.size ic).toLoadRect l0) fun (xc : Vec F S512x128 .f32) =>
      .op (.load a9 (Rect.unit (s := S512x128) oa S512x128.size ia).toLoadRect l1) fun (xa : Vec F S512x128 .f32) =>
      .op (.load a7 (Rect.unit (s := S2x512x512) op S1x512x512.size ip).toLoadRect l2) fun (xp : Vec F S1x512x512 .bf16) =>
      .op (.load a4 (Rect.unit (s := S1x1x16384x128) ov S1x1x512x128.size iv).toLoadRect l3) fun (xv : Vec F S1x1x512x128 .bf16) =>
      .op (.load a10 (Rect.unit (s := S512x128) oc S512x128.size ic).toLoadRect l4) fun _ =>
      .op (.store a10 (Rect.unit (s := S512x128) oc S512x128.size ic) (shapeCast S512x128 (addf (mulf (xc : FVec F S512x128 .f32) xa)
        (matmul dotPV none (shapeCast S512x512 xp c1 : FVec F S512x512 .bf16) (shapeCast S512x128 xv c3 : FVec F S512x128 .bf16)
          (constant S512x128 .f32 0x00000000#32))) c0) Finset.univ h0 h1) fun _ => K) Q := by
  have h' := h
  unfold Res at h' ⊢
  iintro ⟨H2, H3, H4, H5, H6, H7, H8, H9, H10⟩
  iapply (wp_ldW defs 𝒱 c bd E) $$ H10; iintro H10
  iapply (wp_ldW defs 𝒱 c bd E) $$ H9; iintro H9
  iapply (wp_ld defs 𝒱 c bd E) $$ H7; iintro H7
  iapply (wp_ld defs 𝒱 c bd E) $$ H4; iintro H4
  iapply (wp_ldW defs 𝒱 c bd E) $$ H10; iintro H10
  iapply (wp_stW defs 𝒱 c bd E) $$ H10; iintro H10
  iapply h'
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- A tile's scores stored into a slot. -/
theorem wp_score {st : St F} {Q : α → sProp 𝕄} {K : 𝒫} {oq ok : Fin 4 → ℕ} {os : Fin 3 → ℕ} {iq : In4 oq} {ik : In4 ok} {is : InS os}
    {l0 l1 l2 h0 h1}
    (h : (Res (τ := τ) (U := U) c a2 a3 a4 a5 a6 a7 a8 a9 a10 q k v) (scoreF q k st oq ok os iq ik) ⊢ (wp frame (wpE defs 𝒱 (c : Thread nD τ) bd) E) K Q) :
    (Res (τ := τ) (U := U) c a2 a3 a4 a5 a6 a7 a8 a9 a10 q k v) st ⊢ (wp frame (wpE defs 𝒱 (c : Thread nD τ) bd) E)
      (.op (.load a2 (Rect.unit (s := S1x1x16384x128) oq S1x1x512x128.size iq).toLoadRect l0) fun (xq : Vec F S1x1x512x128 .bf16) =>
      .op (.load a3 (Rect.unit (s := S1x1x16384x128) ok S1x1x512x128.size ik).toLoadRect l1) fun (xk : Vec F S1x1x512x128 .bf16) =>
      .op (.load a6 (Rect.unit (s := S2x512x512) os S1x512x512.size is).toLoadRect l2) fun _ =>
      .op (.store a6 (Rect.unit (s := S2x512x512) os S1x512x512.size is) (shapeCast S1x512x512
        (matmul dotQK none (shapeCast S512x128 xq c3 : FVec F S512x128 .bf16) (shapeCast S512x128 xk c3 : FVec F S512x128 .bf16)
          (constant S512x512 .f32 0x00000000#32)) c2 : FVec F S1x512x512 .f32) Finset.univ h0 h1) fun _ => K) Q := by
  have h' := h
  unfold Res at h' ⊢
  iintro ⟨H2, H3, H4, H5, H6, H7, H8, H9, H10⟩
  iapply (wp_ld defs 𝒱 c bd E) $$ H2; iintro H2
  iapply (wp_ld defs 𝒱 c bd E) $$ H3; iintro H3
  iapply (wp_ld defs 𝒱 c bd E) $$ H6; iintro H6
  iapply (wp_st defs 𝒱 c bd E) $$ H6; iintro H6
  iapply h'
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The accumulator over its normalising column written to the result's rows. -/
theorem wp_emit (w : BitVec 1) {st : St F} {Q : α → sProp 𝕄} {K : 𝒫} {oc : Fin 2 → ℕ} {oo : Fin 4 → ℕ} {ic : InW oc} {io : In4 oo}
    {l0 l1 h0 h1}
    (h : (Res (τ := τ) (U := U) c a2 a3 a4 a5 a6 a7 a8 a9 a10 q k v) (emitF w st oo) ⊢ (wp frame (wpE defs 𝒱 (c : Thread nD τ) bd) E) K Q) :
    (Res (τ := τ) (U := U) c a2 a3 a4 a5 a6 a7 a8 a9 a10 q k v) st ⊢ (wp frame (wpE defs 𝒱 (c : Thread nD τ) bd) E)
      (.op (.load a10 (Rect.unit (s := S512x128) oc S512x128.size ic).toLoadRect l0) fun (xc : Vec F S512x128 .f32) =>
      .op (.load a5 (Rect.unit (s := S1x1x16384x128) oo S1x1x512x128.size io).toLoadRect l1) fun _ =>
      .op (.store a5 (Rect.unit (s := S1x1x16384x128) oo S1x1x512x128.size io) (shapeCast S1x1x512x128 (truncf .bf16 (divf (xc : FVec F S512x128 .f32)
      (broadcastTo S512x128 (Scalar.select w (extractStridedSlice S512x1 ![0, 0] (xc : FVec F S512x128 .f32) s0)
        (extractStridedSlice S512x1 ![0, 64] (xc : FVec F S512x128 .f32) s1)) e0)) t0) c4 : FVec F S1x1x512x128 .bf16) Finset.univ h0 h1) fun _ => K) Q := by
  have h' := h
  unfold Res at h' ⊢
  iintro ⟨H2, H3, H4, H5, H6, H7, H8, H9, H10⟩
  iapply (wp_ldW defs 𝒱 c bd E) $$ H10; iintro H10
  iapply (wp_ld defs 𝒱 c bd E) $$ H5; iintro H5
  iapply (wp_st defs 𝒱 c bd E) $$ H5; iintro H5
  iapply h'
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- What the kernel starts from: maxima zero, factors and accumulator one, the second slot of weights zero. -/
def initF (st : St F) (op : Fin 3 → ℕ) : St F :=
  { st with
    M := shapeCast S512x128 (broadcast S512x128 (Scalar.ofBits .f32 0x00000000#32 : F .f32)) c0
    A := shapeCast S512x128 (broadcast S512x128 (Scalar.ofBits .f32 0x3F800000#32 : F .f32)) c0
    C := shapeCast S512x128 (broadcast S512x128 (Scalar.ofBits .f32 0x3F800000#32 : F .f32)) c0
    P := VecWindow.put st.P op S1x512x512.size (shapeCast S1x512x512 (broadcast S512x512 (Scalar.ofBits .bf16 0x0000#16 : F .bf16)) c2) }

/-- The starting values stored. -/
theorem wp_init {st : St F} {Q : α → sProp 𝕄} {K : 𝒫} {om oa oc : Fin 2 → ℕ} {op : Fin 3 → ℕ} {im : InW om} {ia : InW oa} {ic : InW oc} {ip : InS op}
    {l0 l1 l2 l3 h0 h0' h1 h1' h2 h2' h3 h3'}
    (h : (Res (τ := τ) (U := U) c a2 a3 a4 a5 a6 a7 a8 a9 a10 q k v) (initF st op) ⊢ (wp frame (wpE defs 𝒱 (c : Thread nD τ) bd) E) K Q) :
    (Res (τ := τ) (U := U) c a2 a3 a4 a5 a6 a7 a8 a9 a10 q k v) st ⊢ (wp frame (wpE defs 𝒱 (c : Thread nD τ) bd) E)
      (.op (.load a8 (Rect.unit (s := S512x128) om S512x128.size im).toLoadRect l0) fun _ =>
      .op (.store a8 (Rect.unit (s := S512x128) om S512x128.size im) (shapeCast S512x128 (broadcast S512x128 (Scalar.ofBits .f32 0x00000000#32 : F .f32)) c0) Finset.univ h0 h0') fun _ =>
      .op (.load a9 (Rect.unit (s := S512x128) oa S512x128.size ia).toLoadRect l1) fun _ =>
      .op (.store a9 (Rect.unit (s := S512x128) oa S512x128.size ia) (shapeCast S512x128 (broadcast S512x128 (Scalar.ofBits .f32 0x3F800000#32 : F .f32)) c0) Finset.univ h1 h1') fun _ =>
      .op (.load a10 (Rect.unit (s := S512x128) oc S512x128.size ic).toLoadRect l2) fun _ =>
      .op (.store a10 (Rect.unit (s := S512x128) oc S512x128.size ic) (shapeCast S512x128 (broadcast S512x128 (Scalar.ofBits .f32 0x3F800000#32 : F .f32)) c0) Finset.univ h2 h2') fun _ =>
      .op (.load a7 (Rect.unit (s := S2x512x512) op S1x512x512.size ip).toLoadRect l3) fun _ =>
      .op (.store a7 (Rect.unit (s := S2x512x512) op S1x512x512.size ip) (shapeCast S1x512x512 (broadcast S512x512 (Scalar.ofBits .bf16 0x0000#16 : F .bf16)) c2) Finset.univ h3 h3') fun _ => K) Q := by
  have h' := h
  unfold Res at h' ⊢
  iintro ⟨H2, H3, H4, H5, H6, H7, H8, H9, H10⟩
  iapply (wp_ldW defs 𝒱 c bd E) $$ H8; iintro H8
  iapply (wp_stW defs 𝒱 c bd E) $$ H8; iintro H8
  iapply (wp_ldW defs 𝒱 c bd E) $$ H9; iintro H9
  iapply (wp_stW defs 𝒱 c bd E) $$ H9; iintro H9
  iapply (wp_ldW defs 𝒱 c bd E) $$ H10; iintro H10
  iapply (wp_stW defs 𝒱 c bd E) $$ H10; iintro H10
  iapply (wp_ld defs 𝒱 c bd E) $$ H7; iintro H7
  iapply (wp_st defs 𝒱 c bd E) $$ H7; iintro H7
  iapply h'
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.Proof.Attn

end
-- ==== Proof.Tile.lean ====
/-
  The attention kernel's tiles: the accumulation, the scores and the softmax of one tile of keys, as a state
  function over the kernel's buffers and a rule for the operations that compute it.
-/
module

public import proofs.«01_k».proof.Proof.Strip

@[expose] public section

noncomputable section

namespace Cert.Proof.Attn

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {F : FTy → Type} [FloatOps F] {Λ : Labels} {U : Type} [URA U]
variable {α : Type}

local notation "𝕄" => MT nD τ sig Unit (Elt F) ℕ U ℕ

variable [Side]
open Side

/-! ## Where the strips, the slots and the tiles lie -/

/-- Strip `r`, block of columns `c`, of slot `s`. -/
abbrev oS (s : Fin 2) (r : Fin 8) (c : Fin 4) : Fin 3 → ℕ := ![s.val, 64 * r.val, 128 * c.val]
/-- Strip `r` of the maxima. -/
abbrev oM (r : Fin 8) : Fin 2 → ℕ := ![64 * r.val, 0]
/-- Slot `s`. -/
abbrev oP (s : Fin 2) : Fin 3 → ℕ := ![s.val, 0, 0]
/-- Tile `t` of 512 rows. -/
abbrev oT (t : Fin 32) : Fin 4 → ℕ := ![0, 0, 512 * t.val, 0]

theorem inS (s : Fin 2) (r : Fin 8) (c : Fin 4) : In3 (oS s r c) := fun a => by
  fin_cases a <;> simp [oS, S1x64x128, S2x512x512] <;> omega
theorem inM (r : Fin 8) : In2 (oM r) := fun a => by
  fin_cases a <;> simp [oM, S64x128, S512x128] <;> omega
theorem inP (s : Fin 2) : InS (oP s) := fun a => by
  fin_cases a <;> simp [oP, S1x512x512, S2x512x512] <;> omega
theorem inT (t : Fin 32) : In4 (oT t) := fun a => by
  fin_cases a <;> simp [oT, S1x1x512x128, S1x1x16384x128] <;> omega

theorem n_u64 : 0 < S1x64x128.numel := by decide
theorem n_m64 : 0 < S64x128.numel := by decide
theorem n_s3 : 0 < S1x512x512.numel := by decide
theorem n_w2 : 0 < S512x128.numel := by decide
theorem n_t4 : 0 < S1x1x512x128.numel := by decide

/-! ## The state functions -/

/-- Strip `r` of the scores in slot `s`. -/
def stripS (ρ : FVec F S64x128 .f32 → FVec F S64x128 .f32) (s : Fin 2) (st : St F) (r : Fin 8) : St F :=
  stripF ρ st (oS s r 0) (oS s r 1) (oS s r 2) (oS s r 3) (oM r) (inS s r 0) (inS s r 1) (inS s r 2) (inS s r 3) (inM r)

/-- The softmax of the scores in slot `s`, strip by strip. -/
def softF (ρ : FVec F S64x128 .f32 → FVec F S64x128 .f32) (s : Fin 2) (st : St F) : St F :=
  stripS ρ s (stripS ρ s (stripS ρ s (stripS ρ s (stripS ρ s (stripS ρ s (stripS ρ s (stripS ρ s st 0) 1) 2) 3) 4) 5) 6) 7

/-- Tile `t` of the values added in, with the weights of slot `s`. -/
def accT (v : S1x1x16384x128.Idx → Elt F .bf16) (s : Fin 2) (t : Fin 32) (st : St F) : St F :=
  accF v st (oP s) (oT t) (inP s) (inT t)

/-- The scores of query tile `j` against key tile `t`, into slot `s`. -/
def scoreT (q k : S1x1x16384x128.Idx → Elt F .bf16) (s : Fin 2) (j t : Fin 32) (st : St F) : St F :=
  scoreF q k st (oT j) (oT t) (oP s) (inT j) (inT t)

/-- The result's tile `j` written. -/
def emitT (w : BitVec 1) (j : Fin 32) (st : St F) : St F := emitF w st (oT j)

/-- One tile: value tile `t` added in with slot `s'`, query tile `j` against key tile `t'` into slot `s'`, the softmax of
    slot `s`. -/
def tileT (q k v : S1x1x16384x128.Idx → Elt F .bf16) (s s' : Fin 2) (t j t' : Fin 32) (st : St F) : St F :=
  softF (fun x => x) s (scoreT q k s' j t' (accT v s' t st))

/-- The first tile of a row of queries: the row before it is finished and written to tile `p`. -/
def headT (q k v : S1x1x16384x128.Idx → Elt F .bf16) (w ρ : BitVec 1) (p j : Fin 32) (st : St F) : St F :=
  softF (restartM ρ) 0 (scoreT q k 1 j 1 (emitT w p (accT v 1 31 st)))

/-- The slot of tile `n`. -/
def slotOf (n : ℕ) : Fin 2 := ⟨n % 2, Nat.mod_lt _ (by omega)⟩

/-- A row of queries after its first tile: tiles `1` to `n` of keys, `n ≤ 30`. -/
def tilesT (q k v : S1x1x16384x128.Idx → Elt F .bf16) (j : Fin 32) : (n : ℕ) → n ≤ 30 → St F → St F
  | 0, _, st => st
  | n + 1, h, st => tileT q k v (slotOf (n + 1)) (slotOf n) ⟨n, by omega⟩ j ⟨n + 2, by omega⟩ (tilesT q k v j n (by omega) st)

/-- A row of queries: the row before it finished, its thirty-two tiles of keys, the next row begun. -/
def tripT (q k v : S1x1x16384x128.Idx → Elt F .bf16) (w : BitVec 1) (j : Fin 32) (st : St F) : St F :=
  tileT q k v 1 0 30 ⟨min (j.val + 1) 31, by omega⟩ 0 (tilesT q k v j 30 (le_refl _) (headT q k v w 1#1 ⟨j.val - 1, by omega⟩ j st))

/-- The state before row `j` of queries. -/
def rowsT (q k v : S1x1x16384x128.Idx → Elt F .bf16) (w : BitVec 1) (st : St F) : ℕ → St F
  | 0 => scoreT q k 0 0 0 (initF st (oP 1))
  | j + 1 => if h : j < 32 then tripT q k v w ⟨j, h⟩ (rowsT q k v w st j) else rowsT q k v w st j

/-- The state the kernel ends in. -/
def finT (q k v : S1x1x16384x128.Idx → Elt F .bf16) (w : BitVec 1) (st : St F) : St F :=
  emitT w 31 (accT v 1 31 (rowsT q k v w st 32))

/-! ## The pieces' rules -/

variable (c : Dev nD) (a2 a3 a4 a5 : Memref sig .tc .vmem S1x1x16384x128 .bf16) (a6 : Memref sig .tc .vmem S2x512x512 .f32)
  (a7 : Memref sig .tc .vmem S2x512x512 .bf16) (a8 a9 a10 : Memref sig .tc .vmem S512x128 .f32)
  (q k v : S1x1x16384x128.Idx → Elt F .bf16)

variable (defs : Defs nD τ sig (Elt F) Λ) (𝒱 : Variants) (bd : Option 𝒱.V) (E : Set ℕ)

local notation "𝒫" => Prog (TpuEff nD τ sig (Elt F) Λ Proc.tc) α

/-- The weights' strips can be stored. -/
def Ok7 : Prop := ∀ (s : Fin 2) (r : Fin 8) (b : Fin 4), (a7.access (Rect.unit (s := S2x512x512) (oS s r b) S1x64x128.size (inS s r b))).Stores Finset.univ

variable {a7} in
/-- The operations of a strip. -/
abbrev stripP (ok : Ok7 a7) (ρ : FVec F S64x128 .f32 → FVec F S64x128 .f32) (s : Fin 2) (r : Fin 8) (K : 𝒫) : 𝒫 :=
  (.op (.load a6 (Rect.unit (s := S2x512x512) (oS s r 0) S1x64x128.size (inS s r 0)).toLoadRect (View.loadsAt_vmem n_u64)) fun (x0 : Vec F S1x64x128 .f32) =>
      .op (.load a6 (Rect.unit (s := S2x512x512) (oS s r 1) S1x64x128.size (inS s r 1)).toLoadRect (View.loadsAt_vmem n_u64)) fun (x1 : Vec F S1x64x128 .f32) =>
      .op (.load a6 (Rect.unit (s := S2x512x512) (oS s r 2) S1x64x128.size (inS s r 2)).toLoadRect (View.loadsAt_vmem n_u64)) fun (x2 : Vec F S1x64x128 .f32) =>
      .op (.load a6 (Rect.unit (s := S2x512x512) (oS s r 3) S1x64x128.size (inS s r 3)).toLoadRect (View.loadsAt_vmem n_u64)) fun (x3 : Vec F S1x64x128 .f32) =>
      .op (.load a8 (Rect.unit (s := S512x128) (oM r) S64x128.size (inM r)).toLoadRect (View.loadsAt_vmem n_m64)) fun (xm : Vec F S64x128 .f32) =>
      .op (.load a8 (Rect.unit (s := S512x128) (oM r) S64x128.size (inM r)).toLoadRect (View.loadsAt_vmem n_m64)) fun _ =>
      .op (.store a8 (Rect.unit (s := S512x128) (oM r) S64x128.size (inM r)) (shapeCast S64x128 (newM (ρ xm) (shapeCast S64x128 x0 c5) (shapeCast S64x128 x1 c5) (shapeCast S64x128 x2 c5) (shapeCast S64x128 x3 c5)) c8)
        Finset.univ (View.stores_vmem_bits_univ n_m64 rfl) (.inl rfl)) fun _ =>
      .op (.load a9 (Rect.unit (s := S512x128) (oM r) S64x128.size (inM r)).toLoadRect (View.loadsAt_vmem n_m64)) fun _ =>
      .op (.store a9 (Rect.unit (s := S512x128) (oM r) S64x128.size (inM r)) (shapeCast S64x128 (exp2 (subf (ρ xm) (newM (ρ xm) (shapeCast S64x128 x0 c5) (shapeCast S64x128 x1 c5) (shapeCast S64x128 x2 c5) (shapeCast S64x128 x3 c5)))) c8)
        Finset.univ (View.stores_vmem_bits_univ n_m64 rfl) (.inl rfl)) fun _ =>
      .op (.load a7 (Rect.unit (s := S2x512x512) (oS s r 0) S1x64x128.size (inS s r 0)).toLoadRect (View.loadsAt_vmem n_u64)) fun _ =>
      .op (.store a7 (Rect.unit (s := S2x512x512) (oS s r 0) S1x64x128.size (inS s r 0)) (wts (shapeCast S64x128 x0 c5) (newM (ρ xm) (shapeCast S64x128 x0 c5) (shapeCast S64x128 x1 c5) (shapeCast S64x128 x2 c5) (shapeCast S64x128 x3 c5)))
        Finset.univ (ok s r 0) (.inl rfl)) fun _ =>
      .op (.load a7 (Rect.unit (s := S2x512x512) (oS s r 1) S1x64x128.size (inS s r 1)).toLoadRect (View.loadsAt_vmem n_u64)) fun _ =>
      .op (.store a7 (Rect.unit (s := S2x512x512) (oS s r 1) S1x64x128.size (inS s r 1)) (wts (shapeCast S64x128 x1 c5) (newM (ρ xm) (shapeCast S64x128 x0 c5) (shapeCast S64x128 x1 c5) (shapeCast S64x128 x2 c5) (shapeCast S64x128 x3 c5)))
        Finset.univ (ok s r 1) (.inl rfl)) fun _ =>
      .op (.load a7 (Rect.unit (s := S2x512x512) (oS s r 2) S1x64x128.size (inS s r 2)).toLoadRect (View.loadsAt_vmem n_u64)) fun _ =>
      .op (.store a7 (Rect.unit (s := S2x512x512) (oS s r 2) S1x64x128.size (inS s r 2)) (wts (shapeCast S64x128 x2 c5) (newM (ρ xm) (shapeCast S64x128 x0 c5) (shapeCast S64x128 x1 c5) (shapeCast S64x128 x2 c5) (shapeCast S64x128 x3 c5)))
        Finset.univ (ok s r 2) (.inl rfl)) fun _ =>
      .op (.load a7 (Rect.unit (s := S2x512x512) (oS s r 3) S1x64x128.size (inS s r 3)).toLoadRect (View.loadsAt_vmem n_u64)) fun _ =>
      .op (.store a7 (Rect.unit (s := S2x512x512) (oS s r 3) S1x64x128.size (inS s r 3)) (wts (shapeCast S64x128 x3 c5) (newM (ρ xm) (shapeCast S64x128 x0 c5) (shapeCast S64x128 x1 c5) (shapeCast S64x128 x2 c5) (shapeCast S64x128 x3 c5)))
        Finset.univ (ok s r 3) (.inl rfl)) fun _ => K)

variable {a7} in
/-- The operations of a tile's softmax. -/
abbrev softP (ok : Ok7 a7) (ρ : FVec F S64x128 .f32 → FVec F S64x128 .f32) (s : Fin 2) (K : 𝒫) : 𝒫 :=
  (stripP a6 a8 a9 ok ρ s 0 (stripP a6 a8 a9 ok ρ s 1 (stripP a6 a8 a9 ok ρ s 2 (stripP a6 a8 a9 ok ρ s 3 (stripP a6 a8 a9 ok ρ s 4 (stripP a6 a8 a9 ok ρ s 5 (stripP a6 a8 a9 ok ρ s 6 (stripP a6 a8 a9 ok ρ s 7 K))))))))

theorem wp_stripS (ok : Ok7 a7) (ρ : FVec F S64x128 .f32 → FVec F S64x128 .f32) (s : Fin 2) (r : Fin 8) {st : St F} {Q : α → sProp 𝕄} {K : 𝒫}
    (h : (Res (τ := τ) (U := U) c a2 a3 a4 a5 a6 a7 a8 a9 a10 q k v) (stripS ρ s st r) ⊢ (wp frame (wpE defs 𝒱 (c : Thread nD τ) bd) E) K Q) : (Res (τ := τ) (U := U) c a2 a3 a4 a5 a6 a7 a8 a9 a10 q k v) st ⊢ (wp frame (wpE defs 𝒱 (c : Thread nD τ) bd) E) (stripP a6 a8 a9 ok ρ s r K) Q :=
  wp_strip c a2 a3 a4 a5 a6 a7 a8 a9 a10 q k v defs 𝒱 bd E ρ h

/-- A tile's softmax. -/
theorem wp_soft (ok : Ok7 a7) (ρ : FVec F S64x128 .f32 → FVec F S64x128 .f32) (s : Fin 2) {st : St F} {Q : α → sProp 𝕄} {K : 𝒫}
    (h : (Res (τ := τ) (U := U) c a2 a3 a4 a5 a6 a7 a8 a9 a10 q k v) (softF ρ s st) ⊢ (wp frame (wpE defs 𝒱 (c : Thread nD τ) bd) E) K Q) : (Res (τ := τ) (U := U) c a2 a3 a4 a5 a6 a7 a8 a9 a10 q k v) st ⊢ (wp frame (wpE defs 𝒱 (c : Thread nD τ) bd) E) (softP a6 a8 a9 ok ρ s K) Q :=
  (wp_stripS c a2 a3 a4 a5 a6 a7 a8 a9 a10 q k v defs 𝒱 bd E ok ρ s 0 (wp_stripS c a2 a3 a4 a5 a6 a7 a8 a9 a10 q k v defs 𝒱 bd E ok ρ s 1 (wp_stripS c a2 a3 a4 a5 a6 a7 a8 a9 a10 q k v defs 𝒱 bd E ok ρ s 2 (wp_stripS c a2 a3 a4 a5 a6 a7 a8 a9 a10 q k v defs 𝒱 bd E ok ρ s 3 (wp_stripS c a2 a3 a4 a5 a6 a7 a8 a9 a10 q k v defs 𝒱 bd E ok ρ s 4 (wp_stripS c a2 a3 a4 a5 a6 a7 a8 a9 a10 q k v defs 𝒱 bd E ok ρ s 5 (wp_stripS c a2 a3 a4 a5 a6 a7 a8 a9 a10 q k v defs 𝒱 bd E ok ρ s 6 (wp_stripS c a2 a3 a4 a5 a6 a7 a8 a9 a10 q k v defs 𝒱 bd E ok ρ s 7 h))))))))

theorem inW : InW ![0, 0] := fun a => by fin_cases a <;> simp [S512x128]

/-- The operations of an accumulation: the weights of slot `s`, the values' rows at `ov`. -/
abbrev accP (s : Fin 2) (ov : Fin 4 → ℕ) (iv : In4 ov) (K : 𝒫) : 𝒫 :=
  (.op (.load a10 (Rect.unit (s := S512x128) (![0, 0]) S512x128.size inW).toLoadRect (View.loadsAt_vmem n_w2)) fun (xc : Vec F S512x128 .f32) =>
      .op (.load a9 (Rect.unit (s := S512x128) (![0, 0]) S512x128.size inW).toLoadRect (View.loadsAt_vmem n_w2)) fun (xa : Vec F S512x128 .f32) =>
      .op (.load a7 (Rect.unit (s := S2x512x512) (oP s) S1x512x512.size (inP s)).toLoadRect (View.loadsAt_vmem n_s3)) fun (xp : Vec F S1x512x512 .bf16) =>
      .op (.load a4 (Rect.unit (s := S1x1x16384x128) ov S1x1x512x128.size iv).toLoadRect (View.loadsAt_vmem n_t4)) fun (xv : Vec F S1x1x512x128 .bf16) =>
      .op (.load a10 (Rect.unit (s := S512x128) (![0, 0]) S512x128.size inW).toLoadRect (View.loadsAt_vmem n_w2)) fun _ =>
      .op (.store a10 (Rect.unit (s := S512x128) (![0, 0]) S512x128.size inW) (shapeCast S512x128 (addf (mulf (xc : FVec F S512x128 .f32) xa)
        (matmul dotPV none (shapeCast S512x512 xp c1 : FVec F S512x512 .bf16) (shapeCast S512x128 xv c3 : FVec F S512x128 .bf16)
          (constant S512x128 .f32 0x00000000#32))) c0) Finset.univ (View.stores_vmem_bits_univ n_w2 rfl) (.inl rfl)) fun _ => K)

/-- The operations of a tile's scores into slot `s`. -/
abbrev scoreP (s : Fin 2) (oq ok : Fin 4 → ℕ) (iq : In4 oq) (ik : In4 ok) (K : 𝒫) : 𝒫 :=
  (.op (.load a2 (Rect.unit (s := S1x1x16384x128) oq S1x1x512x128.size iq).toLoadRect (View.loadsAt_vmem n_t4)) fun (xq : Vec F S1x1x512x128 .bf16) =>
      .op (.load a3 (Rect.unit (s := S1x1x16384x128) ok S1x1x512x128.size ik).toLoadRect (View.loadsAt_vmem n_t4)) fun (xk : Vec F S1x1x512x128 .bf16) =>
      .op (.load a6 (Rect.unit (s := S2x512x512) (oP s) S1x512x512.size (inP s)).toLoadRect (View.loadsAt_vmem n_s3)) fun _ =>
      .op (.store a6 (Rect.unit (s := S2x512x512) (oP s) S1x512x512.size (inP s)) (shapeCast S1x512x512
        (matmul dotQK none (shapeCast S512x128 xq c3 : FVec F S512x128 .bf16) (shapeCast S512x128 xk c3 : FVec F S512x128 .bf16)
          (constant S512x512 .f32 0x00000000#32)) c2 : FVec F S1x512x512 .f32) Finset.univ (View.stores_vmem_bits_univ n_s3 rfl) (.inl rfl)) fun _ => K)

/-- The operations of writing the result's rows at `oo`. -/
abbrev emitP (w : BitVec 1) (oo : Fin 4 → ℕ) (io : In4 oo) (hx : (a5.access (Rect.unit (s := S1x1x16384x128) oo S1x1x512x128.size io)).Stores Finset.univ) (K : 𝒫) : 𝒫 :=
  (.op (.load a10 (Rect.unit (s := S512x128) (![0, 0]) S512x128.size inW).toLoadRect (View.loadsAt_vmem n_w2)) fun (xc : Vec F S512x128 .f32) =>
      .op (.load a5 (Rect.unit (s := S1x1x16384x128) oo S1x1x512x128.size io).toLoadRect (View.loadsAt_vmem n_t4)) fun _ =>
      .op (.store a5 (Rect.unit (s := S1x1x16384x128) oo S1x1x512x128.size io) (shapeCast S1x1x512x128 (truncf .bf16 (divf (xc : FVec F S512x128 .f32)
      (broadcastTo S512x128 (Scalar.select w (extractStridedSlice S512x1 ![0, 0] (xc : FVec F S512x128 .f32) s0)
        (extractStridedSlice S512x1 ![0, 64] (xc : FVec F S512x128 .f32) s1)) e0)) t0) c4 : FVec F S1x1x512x128 .bf16) Finset.univ hx (.inl rfl)) fun _ => K)

theorem wp_accT (s : Fin 2) (t : Fin 32) {ov : Fin 4 → ℕ} {iv : In4 ov} (hv : ov = oT t) {st : St F} {Q : α → sProp 𝕄} {K : 𝒫}
    (h : (Res (τ := τ) (U := U) c a2 a3 a4 a5 a6 a7 a8 a9 a10 q k v) (accT v s t st) ⊢ (wp frame (wpE defs 𝒱 (c : Thread nD τ) bd) E) K Q) : (Res (τ := τ) (U := U) c a2 a3 a4 a5 a6 a7 a8 a9 a10 q k v) st ⊢ (wp frame (wpE defs 𝒱 (c : Thread nD τ) bd) E) (accP a4 a7 a9 a10 s ov iv K) Q := by
  subst hv; exact wp_acc c a2 a3 a4 a5 a6 a7 a8 a9 a10 q k v defs 𝒱 bd E h

theorem wp_scoreT (s : Fin 2) (j t : Fin 32) {oq ok : Fin 4 → ℕ} {iq : In4 oq} {ik : In4 ok} (hq : oq = oT j) (hk : ok = oT t) {st : St F} {Q : α → sProp 𝕄} {K : 𝒫}
    (h : (Res (τ := τ) (U := U) c a2 a3 a4 a5 a6 a7 a8 a9 a10 q k v) (scoreT q k s j t st) ⊢ (wp frame (wpE defs 𝒱 (c : Thread nD τ) bd) E) K Q) : (Res (τ := τ) (U := U) c a2 a3 a4 a5 a6 a7 a8 a9 a10 q k v) st ⊢ (wp frame (wpE defs 𝒱 (c : Thread nD τ) bd) E) (scoreP a2 a3 a6 s oq ok iq ik K) Q := by
  subst hq; subst hk; exact wp_score c a2 a3 a4 a5 a6 a7 a8 a9 a10 q k v defs 𝒱 bd E h

theorem wp_emitT (w : BitVec 1) (j : Fin 32) {oo : Fin 4 → ℕ} {io : In4 oo} {hx : (a5.access (Rect.unit (s := S1x1x16384x128) oo S1x1x512x128.size io)).Stores Finset.univ} (ho : oo = oT j) {st : St F} {Q : α → sProp 𝕄} {K : 𝒫}
    (h : (Res (τ := τ) (U := U) c a2 a3 a4 a5 a6 a7 a8 a9 a10 q k v) (emitT w j st) ⊢ (wp frame (wpE defs 𝒱 (c : Thread nD τ) bd) E) K Q) : (Res (τ := τ) (U := U) c a2 a3 a4 a5 a6 a7 a8 a9 a10 q k v) st ⊢ (wp frame (wpE defs 𝒱 (c : Thread nD τ) bd) E) (emitP a5 a10 w oo io hx K) Q := by
  subst ho; exact wp_emit c a2 a3 a4 a5 a6 a7 a8 a9 a10 q k v defs 𝒱 bd E w h

/-- A tile. -/
theorem wp_tile (ok : Ok7 a7) (s s' : Fin 2) (t j t' : Fin 32) {ov oq ok' : Fin 4 → ℕ} {iv : In4 ov} {iq : In4 oq} {ik : In4 ok'}
    (hv : ov = oT t) (hq : oq = oT j) (hk : ok' = oT t') {st : St F} {Q : α → sProp 𝕄} {K : 𝒫}
    (h : (Res (τ := τ) (U := U) c a2 a3 a4 a5 a6 a7 a8 a9 a10 q k v) (tileT q k v s s' t j t' st) ⊢ (wp frame (wpE defs 𝒱 (c : Thread nD τ) bd) E) K Q) :
    (Res (τ := τ) (U := U) c a2 a3 a4 a5 a6 a7 a8 a9 a10 q k v) st ⊢ (wp frame (wpE defs 𝒱 (c : Thread nD τ) bd) E) (accP a4 a7 a9 a10 s' ov iv (scoreP a2 a3 a6 s' oq ok' iq ik (softP a6 a8 a9 ok (fun x => x) s K))) Q :=
  wp_accT c a2 a3 a4 a5 a6 a7 a8 a9 a10 q k v defs 𝒱 bd E s' t hv (wp_scoreT c a2 a3 a4 a5 a6 a7 a8 a9 a10 q k v defs 𝒱 bd E s' j t' hq hk (wp_soft c a2 a3 a4 a5 a6 a7 a8 a9 a10 q k v defs 𝒱 bd E ok _ s h))

/-- The first tile of a row of queries. -/
theorem wp_head (ok : Ok7 a7) (w : BitVec 1) {ρ : BitVec 1} (hρ : ρ = 1#1) (p j : Fin 32) {ov oo oq ok' : Fin 4 → ℕ} {iv : In4 ov} {io : In4 oo} {hx : (a5.access (Rect.unit (s := S1x1x16384x128) oo S1x1x512x128.size io)).Stores Finset.univ} {iq : In4 oq} {ik : In4 ok'}
    (hv : ov = oT 31) (ho : oo = oT p) (hq : oq = oT j) (hk : ok' = oT 1) {st : St F} {Q : α → sProp 𝕄} {K : 𝒫}
    (h : (Res (τ := τ) (U := U) c a2 a3 a4 a5 a6 a7 a8 a9 a10 q k v) (headT q k v w 1#1 p j st) ⊢ (wp frame (wpE defs 𝒱 (c : Thread nD τ) bd) E) K Q) :
    (Res (τ := τ) (U := U) c a2 a3 a4 a5 a6 a7 a8 a9 a10 q k v) st ⊢ (wp frame (wpE defs 𝒱 (c : Thread nD τ) bd) E) (accP a4 a7 a9 a10 1 ov iv (emitP a5 a10 w oo io hx (scoreP a2 a3 a6 1 oq ok' iq ik (softP a6 a8 a9 ok (restartM ρ) 0 K)))) Q :=
  hρ ▸ wp_accT c a2 a3 a4 a5 a6 a7 a8 a9 a10 q k v defs 𝒱 bd E 1 31 hv (wp_emitT c a2 a3 a4 a5 a6 a7 a8 a9 a10 q k v defs 𝒱 bd E w p ho (wp_scoreT c a2 a3 a4 a5 a6 a7 a8 a9 a10 q k v defs 𝒱 bd E 1 j 1 hq hk (wp_soft c a2 a3 a4 a5 a6 a7 a8 a9 a10 q k v defs 𝒱 bd E ok _ 0 h)))

/-- Nothing more to run. -/
theorem wp_end {st : St F} {y : α} : (Res (τ := τ) (U := U) c a2 a3 a4 a5 a6 a7 a8 a9 a10 q k v) st ⊢ (wp frame (wpE defs 𝒱 (c : Thread nD τ) bd) E) (Prog.ret y) (fun _ => (Res (τ := τ) (U := U) c a2 a3 a4 a5 a6 a7 a8 a9 a10 q k v) st) := by
  rw [wp_ret]
  iintro H
  imodintro
  iexact H

/-- A loop under two continuations, from a state to a state. -/
theorem wp_rows {w' : ℕ} {lb ub step : BitVec w'} {hok : Scf.OK lb ub step} {σ : Type} {x : σ} {body : Fin (Scf.trips lb ub step) → σ → Prog (TpuEff nD τ sig (Elt F) Λ Proc.tc) σ}
    {β : Type} {k1 : σ → Prog (TpuEff nD τ sig (Elt F) Λ Proc.tc) β} {k2 : β → 𝒫} {Q : α → sProp 𝕄} (f : ℕ → St F)
    (hb : ∀ (j : Fin (Scf.trips lb ub step)) (y : σ), (Res (τ := τ) (U := U) c a2 a3 a4 a5 a6 a7 a8 a9 a10 q k v) (f j.val) ⊢ (wp frame (wpE defs 𝒱 (c : Thread nD τ) bd) E) (body j y) (fun _ => (Res (τ := τ) (U := U) c a2 a3 a4 a5 a6 a7 a8 a9 a10 q k v) (f (j.val + 1))))
    (h : ∀ y : σ, (Res (τ := τ) (U := U) c a2 a3 a4 a5 a6 a7 a8 a9 a10 q k v) (f (Scf.trips lb ub step)) ⊢ (wp frame (wpE defs 𝒱 (c : Thread nD τ) bd) E) (Prog.bind (k1 y) k2) Q) :
    (Res (τ := τ) (U := U) c a2 a3 a4 a5 a6 a7 a8 a9 a10 q k v) (f 0) ⊢ (wp frame (wpE defs 𝒱 (c : Thread nD τ) bd) E) (Prog.bind (Prog.bind (Scf.for lb ub step hok x body) k1) k2) Q := by
  have e : Prog.bind (Prog.bind (Scf.for lb ub step hok x body) k1) k2 = Scf.for lb ub step hok x body >>= fun y => Prog.bind (k1 y) k2 :=
    Prog.bind_assoc _ _ _
  rw [e]
  iintro H
  iapply (Scf.wp_for_bind frame (wpE defs 𝒱 (c : Thread nD τ) bd) E lb ub step hok x body (fun n _ => (Res (τ := τ) (U := U) c a2 a3 a4 a5 a6 a7 a8 a9 a10 q k v) (f n)) hb) $$ H
  iintro %y H
  iapply (h y) $$ H

end Cert.Proof.Attn

end
-- ==== Proof.Det.lean ====
/-
  What the attention kernel leaves in its buffers, with the slots, strips and tiles read away: a tile of keys acts on
  five arrays (the scores, the weights, the running maxima, the rescaling factors, the accumulator), and the result's
  block depends on the queries, keys and values alone.
-/
module

public import proofs.«01_k».proof.Proof.Tile
public import Idealize.ShloMosaic.Lib.ValueLayout
public import Idealize.ShloMosaic.Lib.ValueIdxCore

@[expose] public section

set_option maxRecDepth 16384

noncomputable section

namespace Cert.Proof.Attn

open Idealize.ShloMosaic Idealize.ShloMosaic.ValueIdx

variable {F : FTy → Type} [FloatOps F]

/-! ## Reading the windows -/

/-- Strip `r` put into the maxima, read at a row. -/
theorem put_oM {α : Type} (x : S512x128.Idx → α) (r : Fin 8) (w : S64x128.Idx → α) (i : Fin 512) (l : Fin 128) :
    VecWindow.put x (oM r) S64x128.size w (ix2 i l) = if i.val / 64 = r.val then w (ix2 (⟨i.val % 64, by omega⟩ : Fin 64) l) else x (ix2 i l) := by
  unfold VecWindow.put
  by_cases h : i.val / 64 = r.val
  · have hh : ∀ a, oM r a ≤ ((ix2 i l : S512x128.Idx) a).val ∧ ((ix2 i l : S512x128.Idx) a).val < oM r a + S64x128.size a := fun a => by
      fin_cases a
      · show 64 * r.val ≤ i.val ∧ i.val < 64 * r.val + 64; omega
      · show 0 ≤ l.val ∧ l.val < 0 + 128; omega
    rw [dif_pos hh, if_pos h]
    refine congrArg w (funext fun a => ?_)
    fin_cases a
    · exact Fin.ext (show i.val - 64 * r.val = i.val % 64 by omega)
    · exact Fin.ext (show l.val - 0 = l.val by omega)
  · have hh : ¬ ∀ a, oM r a ≤ ((ix2 i l : S512x128.Idx) a).val ∧ ((ix2 i l : S512x128.Idx) a).val < oM r a + S64x128.size a := fun h0 => by
      have : 64 * r.val ≤ i.val ∧ i.val < 64 * r.val + 64 := h0 0
      omega
    rw [dif_neg hh, if_neg h]

/-- Strip `r`, block `c`, of slot `s` put into the weights, read at a row and a column. -/
theorem put_oS {α : Type} (x : S2x512x512.Idx → α) (s : Fin 2) (r : Fin 8) (c : Fin 4) (w : S1x64x128.Idx → α) (s' : Fin 2) (i j : Fin 512) :
    VecWindow.put x (oS s r c) S1x64x128.size w (ix3 s' i j)
      = if s' = s ∧ i.val / 64 = r.val ∧ j.val / 128 = c.val then
          w (ix3 (0 : Fin 1) (⟨i.val % 64, by omega⟩ : Fin 64) (⟨j.val % 128, by omega⟩ : Fin 128)) else x (ix3 s' i j) := by
  unfold VecWindow.put
  by_cases h : s' = s ∧ i.val / 64 = r.val ∧ j.val / 128 = c.val
  · have hh : ∀ a, oS s r c a ≤ ((ix3 s' i j : S2x512x512.Idx) a).val ∧ ((ix3 s' i j : S2x512x512.Idx) a).val < oS s r c a + S1x64x128.size a := fun a => by
      obtain ⟨rfl, h1, h2⟩ := h
      fin_cases a
      · show s'.val ≤ s'.val ∧ s'.val < s'.val + 1; omega
      · show 64 * r.val ≤ i.val ∧ i.val < 64 * r.val + 64; omega
      · show 128 * c.val ≤ j.val ∧ j.val < 128 * c.val + 128; omega
    rw [dif_pos hh, if_pos h]
    obtain ⟨rfl, h1, h2⟩ := h
    refine congrArg w (funext fun a => ?_)
    fin_cases a
    · exact Fin.ext (show s'.val - s'.val = 0 by omega)
    · exact Fin.ext (show i.val - 64 * r.val = i.val % 64 by omega)
    · exact Fin.ext (show j.val - 128 * c.val = j.val % 128 by omega)
  · have hh : ¬ ∀ a, oS s r c a ≤ ((ix3 s' i j : S2x512x512.Idx) a).val ∧ ((ix3 s' i j : S2x512x512.Idx) a).val < oS s r c a + S1x64x128.size a := fun h0 => by
      have h1 : s.val ≤ s'.val ∧ s'.val < s.val + 1 := h0 0
      have h2 : 64 * r.val ≤ i.val ∧ i.val < 64 * r.val + 64 := h0 1
      have h3 : 128 * c.val ≤ j.val ∧ j.val < 128 * c.val + 128 := h0 2
      exact h ⟨Fin.ext (by omega), by omega, by omega⟩
    rw [dif_neg hh, if_neg h]

/-- A slot put, read at a row and a column. -/
theorem put_oP {α : Type} (x : S2x512x512.Idx → α) (s : Fin 2) (w : S1x512x512.Idx → α) (s' : Fin 2) (i j : Fin 512) :
    VecWindow.put x (oP s) S1x512x512.size w (ix3 s' i j) = if s' = s then w (ix3 (0 : Fin 1) i j) else x (ix3 s' i j) := by
  unfold VecWindow.put
  by_cases h : s' = s
  · have hh : ∀ a, oP s a ≤ ((ix3 s' i j : S2x512x512.Idx) a).val ∧ ((ix3 s' i j : S2x512x512.Idx) a).val < oP s a + S1x512x512.size a := fun a => by
      subst h
      fin_cases a
      · show s'.val ≤ s'.val ∧ s'.val < s'.val + 1; omega
      · show 0 ≤ i.val ∧ i.val < 0 + 512; omega
      · show 0 ≤ j.val ∧ j.val < 0 + 512; omega
    rw [dif_pos hh, if_pos h]
    subst h
    refine congrArg w (funext fun a => ?_)
    fin_cases a
    · exact Fin.ext (show s'.val - s'.val = 0 by omega)
    · exact Fin.ext (show i.val - 0 = i.val by omega)
    · exact Fin.ext (show j.val - 0 = j.val by omega)
  · have hh : ¬ ∀ a, oP s a ≤ ((ix3 s' i j : S2x512x512.Idx) a).val ∧ ((ix3 s' i j : S2x512x512.Idx) a).val < oP s a + S1x512x512.size a := fun h0 => by
      have h1 : s.val ≤ s'.val ∧ s'.val < s.val + 1 := h0 0
      exact h (Fin.ext (by omega))
    rw [dif_neg hh, if_neg h]

/-- A tile of rows put into a block, read at a row and a column. -/
theorem put_oT {α : Type} (x : S1x1x16384x128.Idx → α) (t : Fin 32) (w : S1x1x512x128.Idx → α) (i : Fin 16384) (l : Fin 128) :
    VecWindow.put x (oT t) S1x1x512x128.size w (ix4 (0 : Fin 1) (0 : Fin 1) i l)
      = if i.val / 512 = t.val then w (ix4 (0 : Fin 1) (0 : Fin 1) (⟨i.val % 512, by omega⟩ : Fin 512) l) else x (ix4 (0 : Fin 1) (0 : Fin 1) i l) := by
  unfold VecWindow.put
  by_cases h : i.val / 512 = t.val
  · have hh : ∀ a, oT t a ≤ ((ix4 (0 : Fin 1) (0 : Fin 1) i l : S1x1x16384x128.Idx) a).val
        ∧ ((ix4 (0 : Fin 1) (0 : Fin 1) i l : S1x1x16384x128.Idx) a).val < oT t a + S1x1x512x128.size a := fun a => by
      fin_cases a
      · show 0 ≤ 0 ∧ 0 < 0 + 1; omega
      · show 0 ≤ 0 ∧ 0 < 0 + 1; omega
      · show 512 * t.val ≤ i.val ∧ i.val < 512 * t.val + 512; omega
      · show 0 ≤ l.val ∧ l.val < 0 + 128; omega
    rw [dif_pos hh, if_pos h]
    refine congrArg w (funext fun a => ?_)
    fin_cases a
    · exact Fin.ext (show 0 - 0 = 0 by omega)
    · exact Fin.ext (show 0 - 0 = 0 by omega)
    · exact Fin.ext (show i.val - 512 * t.val = i.val % 512 by omega)
    · exact Fin.ext (show l.val - 0 = l.val by omega)
  · have hh : ¬ ∀ a, oT t a ≤ ((ix4 (0 : Fin 1) (0 : Fin 1) i l : S1x1x16384x128.Idx) a).val
        ∧ ((ix4 (0 : Fin 1) (0 : Fin 1) i l : S1x1x16384x128.Idx) a).val < oT t a + S1x1x512x128.size a := fun h0 => by
      have : 512 * t.val ≤ i.val ∧ i.val < 512 * t.val + 512 := h0 2
      omega
    rw [dif_neg hh, if_neg h]

/-! ## The five arrays -/

/-- Slot `s` of a two-slot buffer. -/
def slot {α : Type} (X : S2x512x512.Idx → α) (s : Fin 2) : S512x512.Idx → α := fun y => X (ix3 s (y 0 : Fin 512) (y 1 : Fin 512))

/-- Strip `r`, block of columns `c`, of a tile's scores. -/
def blkv (x : FVec F S512x512 .f32) (r : Fin 8) (c : Fin 4) : FVec F S64x128 .f32 := fun y =>
  x (ix2 (⟨64 * r.val + (y 0).val, by have : (y 0).val < 64 := (y 0).isLt; omega⟩ : Fin 512)
    (⟨128 * c.val + (y 1).val, by have : (y 1).val < 128 := (y 1).isLt; omega⟩ : Fin 512))

/-- Strip `r` of the maxima. -/
def mv (m : FVec F S512x128 .f32) (r : Fin 8) : FVec F S64x128 .f32 := fun y =>
  m (ix2 (⟨64 * r.val + (y 0).val, by have : (y 0).val < 64 := (y 0).isLt; omega⟩ : Fin 512) (y 1 : Fin 128))

/-- Tile `t` of a block. -/
def tl (z : S1x1x16384x128.Idx → Elt F .bf16) (t : Fin 32) : FVec F S512x128 .bf16 := fun y =>
  z (ix4 (0 : Fin 1) (0 : Fin 1) (⟨512 * t.val + (y 0).val, by have : (y 0).val < 512 := (y 0).isLt; omega⟩ : Fin 16384) (y 1 : Fin 128))

variable [Side]
open Side

/-- The strip a row lies in. -/
abbrev sOf (i : Fin 512) : Fin 8 := ⟨i.val / 64, by omega⟩
/-- Where it lies in the strip. -/
abbrev rOf (i : Fin 512) : Fin 64 := ⟨i.val % 64, by omega⟩
/-- The block a column lies in. -/
abbrev bOf (j : Fin 512) : Fin 4 := ⟨j.val / 128, by omega⟩
/-- Where it lies in the block. -/
abbrev cOf (j : Fin 512) : Fin 128 := ⟨j.val % 128, by omega⟩

/-- A strip's new maxima. -/
def mxS (ρ : FVec F S64x128 .f32 → FVec F S64x128 .f32) (x : FVec F S512x512 .f32) (m : FVec F S512x128 .f32) (r : Fin 8) : FVec F S64x128 .f32 :=
  newM (ρ (mv m r)) (blkv x r 0) (blkv x r 1) (blkv x r 2) (blkv x r 3)

/-- The maxima after a tile. -/
def nM (ρ : FVec F S64x128 .f32 → FVec F S64x128 .f32) (x : FVec F S512x512 .f32) (m : FVec F S512x128 .f32) : FVec F S512x128 .f32 := fun y =>
  mxS ρ x m (sOf (y 0)) (ix2 (rOf (y 0)) (y 1 : Fin 128))

/-- The rescaling factors of a tile. -/
def nA (ρ : FVec F S64x128 .f32 → FVec F S64x128 .f32) (x : FVec F S512x512 .f32) (m : FVec F S512x128 .f32) : FVec F S512x128 .f32 := fun y =>
  exp2 (subf (ρ (mv m (sOf (y 0)))) (mxS ρ x m (sOf (y 0)))) (ix2 (rOf (y 0)) (y 1 : Fin 128))

/-- The weights of a tile. -/
def nP (ρ : FVec F S64x128 .f32 → FVec F S64x128 .f32) (x : FVec F S512x512 .f32) (m : FVec F S512x128 .f32) : FVec F S512x512 .bf16 := fun y =>
  truncf .bf16 (exp2 (subf (blkv x (sOf (y 0)) (bOf (y 1))) (mxS ρ x m (sOf (y 0))))) t0 (ix2 (rOf (y 0)) (cOf (y 1)))

/-- The scores of query tile `j` against key tile `t`. -/
def sc (q k : S1x1x16384x128.Idx → Elt F .bf16) (j t : Fin 32) : FVec F S512x512 .f32 :=
  matmul dotQK none (tl q j) (tl k t) (constant S512x512 .f32 0x00000000#32)

/-- The accumulator after value tile `t`. -/
def ac (v : S1x1x16384x128.Idx → Elt F .bf16) (t : Fin 32) (p : FVec F S512x512 .bf16) (a c : FVec F S512x128 .f32) : FVec F S512x128 .f32 :=
  addf (mulf c a) (matmul dotPV none p (tl v t) (constant S512x128 .f32 0x00000000#32))

/-- The accumulator over its normalising column. -/
def em (w : BitVec 1) (c : FVec F S512x128 .f32) : FVec F S512x128 .bf16 :=
  truncf .bf16 (divf c (broadcastTo S512x128 (Scalar.select w (extractStridedSlice S512x1 ![0, 0] c s0) (extractStridedSlice S512x1 ![0, 64] c s1)) e0)) t0

/-! ## A strip, read -/

theorem sblk_eq (S : S2x512x512.Idx → Elt F .f32) (s : Fin 2) (r : Fin 8) (c : Fin 4) : sblk S (oS s r c) (inS s r c) = blkv (slot S s) r c := by
  funext y
  obtain ⟨a, b, rfl⟩ : ∃ (a : Fin 64) (b : Fin 128), y = ix2 a b := ⟨y 0, y 1, eq_ix2 y⟩
  unfold sblk
  rw [shapeCast_1ab_ab_apply]
  refine congrArg S (funext fun d => ?_)
  fin_cases d
  · exact Fin.ext (show s.val + 1 * 0 = s.val by omega)
  · exact Fin.ext (show 64 * r.val + 1 * a.val = 64 * r.val + a.val by omega)
  · exact Fin.ext (show 128 * c.val + 1 * b.val = 128 * c.val + b.val by omega)

theorem window_oM (m : S512x128.Idx → Elt F .f32) (r : Fin 8) : VecWindow.window m (oM r) S64x128.size (inM r) = mv m r := by
  funext y
  refine congrArg m (funext fun d => ?_)
  fin_cases d
  · exact Fin.ext (show 64 * r.val + 1 * (y 0).val = 64 * r.val + (y 0).val by omega)
  · exact Fin.ext (show 0 + 1 * (y 1).val = (y 1).val by omega)

theorem window_oT (z : S1x1x16384x128.Idx → Elt F .bf16) (t : Fin 32) :
    (shapeCast S512x128 (VecWindow.window z (oT t) S1x1x512x128.size (inT t) : Vec F S1x1x512x128 .bf16) c3 : FVec F S512x128 .bf16) = tl z t := by
  funext y
  obtain ⟨a, b, rfl⟩ : ∃ (a : Fin 512) (b : Fin 128), y = ix2 a b := ⟨y 0, y 1, eq_ix2 y⟩
  refine (shapeCast_apply _ _ _ (ix4 (0 : Fin 1) (0 : Fin 1) a b) ?_).trans ?_
  · rw [Shape.rowMajor_val_four, Shape.rowMajor_val_two]
    show ((0 * 1 + 0) * 512 + a.val) * 128 + b.val = a.val * 128 + b.val
    omega
  · refine congrArg z (funext fun d => ?_)
    fin_cases d
    · exact Fin.ext (show 0 + 1 * 0 = 0 by omega)
    · exact Fin.ext (show 0 + 1 * 0 = 0 by omega)
    · exact Fin.ext (show 512 * t.val + 1 * a.val = 512 * t.val + a.val by omega)
    · exact Fin.ext (show 0 + 1 * b.val = b.val by omega)

theorem window_oP (P : S2x512x512.Idx → Elt F .bf16) (s : Fin 2) :
    (shapeCast S512x512 (VecWindow.window P (oP s) S1x512x512.size (inP s) : Vec F S1x512x512 .bf16) c1 : FVec F S512x512 .bf16) = slot P s := by
  funext y
  obtain ⟨a, b, rfl⟩ : ∃ (a : Fin 512) (b : Fin 512), y = ix2 a b := ⟨y 0, y 1, eq_ix2 y⟩
  rw [shapeCast_1ab_ab_apply]
  refine congrArg P (funext fun d => ?_)
  fin_cases d
  · exact Fin.ext (show s.val + 1 * 0 = s.val by omega)
  · exact Fin.ext (show 0 + 1 * a.val = a.val by omega)
  · exact Fin.ext (show 0 + 1 * b.val = b.val by omega)

theorem cast_self {s : Shape} {α : Type} (x : s.Idx → α) (h : s.ShapeCasts s) : shapeCast s x h = x := by
  funext y
  exact shapeCast_apply _ _ _ y rfl

/-- What holds after the first `n` strips of slot `s`, begun at `st₀`. -/
structure Strips (ρ : FVec F S64x128 .f32 → FVec F S64x128 .f32) (s : Fin 2) (st₀ : St F) (n : ℕ) (st : St F) : Prop where
  S : st.S = st₀.S
  C : st.C = st₀.C
  O : st.O = st₀.O
  M : ∀ (i : Fin 512) (l : Fin 128), st.M (ix2 i l) = if i.val / 64 < n then nM ρ (slot st₀.S s) st₀.M (ix2 i l) else st₀.M (ix2 i l)
  A : ∀ (i : Fin 512) (l : Fin 128), st.A (ix2 i l) = if i.val / 64 < n then nA ρ (slot st₀.S s) st₀.M (ix2 i l) else st₀.A (ix2 i l)
  P : ∀ (s' : Fin 2) (i j : Fin 512), st.P (ix3 s' i j)
    = if s' = s ∧ i.val / 64 < n then nP ρ (slot st₀.S s) st₀.M (ix2 i j) else st₀.P (ix3 s' i j)

/-- One more strip. -/
theorem Strips.step {ρ : FVec F S64x128 .f32 → FVec F S64x128 .f32} {s : Fin 2} {st₀ st : St F} (r : Fin 8) (h : Strips ρ s st₀ r.val st) :
    Strips ρ s st₀ (r.val + 1) (stripS ρ s st r) := by
  have hm : mv st.M r = mv st₀.M r := by
    funext y
    have hy : (y 0).val < 64 := (y 0).isLt
    exact (h.M _ _).trans (if_neg (by show ¬ (64 * r.val + (y 0).val) / 64 < r.val; omega))
  have hn : newM (ρ (VecWindow.window st.M (oM r) S64x128.size (inM r))) (sblk st.S (oS s r 0) (inS s r 0)) (sblk st.S (oS s r 1) (inS s r 1))
      (sblk st.S (oS s r 2) (inS s r 2)) (sblk st.S (oS s r 3) (inS s r 3)) = mxS ρ (slot st₀.S s) st₀.M r := by
    rw [window_oM, sblk_eq, sblk_eq, sblk_eq, sblk_eq, hm, h.S]; rfl
  refine ⟨h.S, h.C, h.O, fun i l => ?_, fun i l => ?_, fun s' i j => ?_⟩
  · show VecWindow.put st.M (oM r) S64x128.size (shapeCast S64x128 (newM _ _ _ _ _) c8) (ix2 i l) = _
    rw [hn, put_oM, cast_self]
    by_cases e : i.val / 64 = r.val
    · rw [if_pos e, if_pos (by omega)]
      have : sOf i = r := Fin.ext e
      subst this; rfl
    · rw [if_neg e, h.M]
      by_cases e' : i.val / 64 < r.val
      · rw [if_pos e', if_pos (by omega)]
      · rw [if_neg e', if_neg (by omega)]
  · show VecWindow.put st.A (oM r) S64x128.size (shapeCast S64x128 (exp2 (subf _ (newM _ _ _ _ _))) c8) (ix2 i l) = _
    rw [hn, put_oM, cast_self, window_oM, hm]
    by_cases e : i.val / 64 = r.val
    · rw [if_pos e, if_pos (by omega)]
      have : sOf i = r := Fin.ext e
      subst this; rfl
    · rw [if_neg e, h.A]
      by_cases e' : i.val / 64 < r.val
      · rw [if_pos e', if_pos (by omega)]
      · rw [if_neg e', if_neg (by omega)]
  · show VecWindow.put (VecWindow.put (VecWindow.put (VecWindow.put st.P (oS s r 0) S1x64x128.size (wts _ (newM _ _ _ _ _)))
      (oS s r 1) S1x64x128.size (wts _ (newM _ _ _ _ _))) (oS s r 2) S1x64x128.size (wts _ (newM _ _ _ _ _))) (oS s r 3) S1x64x128.size
      (wts _ (newM _ _ _ _ _)) (ix3 s' i j) = _
    rw [hn, put_oS, put_oS, put_oS, put_oS, sblk_eq, sblk_eq, sblk_eq, sblk_eq, h.S]
    have hw : ∀ b : Fin 4, s' = s → i.val / 64 = r.val → j.val / 128 = b.val →
        wts (blkv (slot st₀.S s) r b) (mxS ρ (slot st₀.S s) st₀.M r) (ix3 (0 : Fin 1) (⟨i.val % 64, by omega⟩ : Fin 64) (⟨j.val % 128, by omega⟩ : Fin 128))
          = nP ρ (slot st₀.S s) st₀.M (ix2 i j) := fun b _ e e' => by
      have h1 : sOf i = r := Fin.ext e
      have h2 : bOf j = b := Fin.ext e'
      subst h1; subst h2
      unfold wts
      rw [shapeCast_ab_1ab_apply]
      rfl
    by_cases e : s' = s ∧ i.val / 64 = r.val
    · rw [if_pos (c := s' = s ∧ i.val / 64 < r.val + 1) ⟨e.1, by omega⟩]
      by_cases e3 : j.val / 128 = 3
      · rw [if_pos ⟨e.1, e.2, e3⟩]; exact hw 3 e.1 e.2 e3
      rw [if_neg fun h => e3 h.2.2]
      by_cases e2 : j.val / 128 = 2
      · rw [if_pos ⟨e.1, e.2, e2⟩]; exact hw 2 e.1 e.2 e2
      rw [if_neg fun h => e2 h.2.2]
      by_cases e1 : j.val / 128 = 1
      · rw [if_pos ⟨e.1, e.2, e1⟩]; exact hw 1 e.1 e.2 e1
      rw [if_neg fun h => e1 h.2.2]
      have e0 : j.val / 128 = 0 := by omega
      rw [if_pos ⟨e.1, e.2, e0⟩]; exact hw 0 e.1 e.2 e0
    · rw [if_neg fun h => e ⟨h.1, h.2.1⟩, if_neg fun h => e ⟨h.1, h.2.1⟩, if_neg fun h => e ⟨h.1, h.2.1⟩, if_neg fun h => e ⟨h.1, h.2.1⟩, h.P]
      by_cases e' : s' = s ∧ i.val / 64 < r.val
      · rw [if_pos e', if_pos ⟨e'.1, by omega⟩]
      · rw [if_neg e', if_neg fun h => by
          rcases Nat.lt_succ_iff_lt_or_eq.mp h.2 with g | g
          · exact e' ⟨h.1, g⟩
          · exact e ⟨h.1, g⟩]

/-- The softmax of slot `s` updates the maxima, the factors and that slot of the weights, and nothing else. -/
theorem soft_spec (ρ : FVec F S64x128 .f32 → FVec F S64x128 .f32) (s : Fin 2) (st : St F) :
    (softF ρ s st).S = st.S ∧ (softF ρ s st).C = st.C ∧ (softF ρ s st).O = st.O
      ∧ (softF ρ s st).M = nM ρ (slot st.S s) st.M ∧ (softF ρ s st).A = nA ρ (slot st.S s) st.M
      ∧ slot (softF ρ s st).P s = nP ρ (slot st.S s) st.M := by
  have h0 : Strips ρ s st 0 st := ⟨rfl, rfl, rfl, fun i l => by rw [if_neg (by omega)], fun i l => by rw [if_neg (by omega)],
    fun s' i j => by rw [if_neg (by omega)]⟩
  have h := (((((((h0.step 0).step 1).step 2).step 3).step 4).step 5).step 6).step 7
  have e : ∀ i : Fin 512, i.val / 64 < (7 : Fin 8).val + 1 := fun i => by show i.val / 64 < 7 + 1; omega
  refine ⟨h.S, h.C, h.O, funext fun y => ?_, funext fun y => ?_, funext fun y => ?_⟩
  · rw [show y = ix2 (y 0 : Fin 512) (y 1 : Fin 128) from eq_ix2 y]
    exact (h.M _ _).trans (if_pos (e _))
  · rw [show y = ix2 (y 0 : Fin 512) (y 1 : Fin 128) from eq_ix2 y]
    exact (h.A _ _).trans (if_pos (e _))
  · rw [show y = ix2 (y 0 : Fin 512) (y 1 : Fin 512) from eq_ix2 y]
    exact (h.P s _ _).trans (if_pos ⟨rfl, e _⟩)

/-! ## A tile on the five arrays -/

/-- The scores of the tile at hand, the weights of the tile before it, the maxima, the factors, the accumulator. -/
structure Lg (F : FTy → Type) where
  x : FVec F S512x512 .f32
  p : FVec F S512x512 .bf16
  m : FVec F S512x128 .f32
  a : FVec F S512x128 .f32
  c : FVec F S512x128 .f32

/-- The buffers hold the five arrays, the scores in slot `s` and the weights in slot `s'`. -/
structure Holds (s s' : Fin 2) (st : St F) (L : Lg F) : Prop where
  x : slot st.S s = L.x
  p : slot st.P s' = L.p
  m : st.M = L.m
  a : st.A = L.a
  c : st.C = L.c

/-- A tile: the weights at hand and value tile `t` into the accumulator, the softmax of the scores at hand, the scores `x'` next. -/
def stepL (ρ : FVec F S64x128 .f32 → FVec F S64x128 .f32) (v : S1x1x16384x128.Idx → Elt F .bf16) (t : Fin 32) (x' : FVec F S512x512 .f32) (L : Lg F) : Lg F :=
  ⟨x', nP ρ L.x L.m, nM ρ L.x L.m, nA ρ L.x L.m, ac v t L.p L.a L.c⟩

theorem acc_C {s : Fin 2} {st : St F} {L : Lg F} (v : S1x1x16384x128.Idx → Elt F .bf16) {s' : Fin 2} (t : Fin 32) (h : Holds s s' st L) :
    (accT v s' t st).C = ac v t L.p L.a L.c := by
  show shapeCast S512x128 (addf (mulf (st.C : FVec F S512x128 .f32) st.A) (matmul dotPV none _ _ _)) c0 = _
  rw [cast_self, window_oP, window_oT, h.p, h.a, h.c]; rfl

theorem score_S (q k : S1x1x16384x128.Idx → Elt F .bf16) (s s' : Fin 2) (j t : Fin 32) (st : St F) :
    slot (scoreT q k s j t st).S s' = if s' = s then sc q k j t else slot st.S s' := by
  funext y
  obtain ⟨a, b, rfl⟩ : ∃ (a : Fin 512) (b : Fin 512), y = ix2 a b := ⟨y 0, y 1, eq_ix2 y⟩
  show VecWindow.put st.S (oP s) S1x512x512.size (shapeCast S1x512x512 (matmul dotQK none _ _ _) c2) (ix3 s' a b) = _
  rw [put_oP, window_oT, window_oT]
  by_cases e : s' = s
  · rw [if_pos e, if_pos e, shapeCast_ab_1ab_apply]; rfl
  · rw [if_neg e, if_neg e]; rfl

/-- A tile on the buffers is a tile on the five arrays, the slots changed over. -/
theorem Holds.step {s s' : Fin 2} {st st' : St F} {L : Lg F} (hs : s ≠ s') (h : Holds s s' st L) (ρ : FVec F S64x128 .f32 → FVec F S64x128 .f32)
    (q k v : S1x1x16384x128.Idx → Elt F .bf16) (t j t' : Fin 32) (e : ∃ O, st' = { accT v s' t st with O := O }) :
    Holds s' s (softF ρ s (scoreT q k s' j t' st')) (stepL ρ v t (sc q k j t') L) := by
  obtain ⟨O, rfl⟩ := e
  obtain ⟨h1, h2, h3, h4, h5, h6⟩ := soft_spec ρ s (scoreT q k s' j t' { accT v s' t st with O := O })
  have hS : slot (scoreT q k s' j t' { accT v s' t st with O := O }).S s = L.x := by
    rw [score_S, if_neg hs]; exact h.x
  have hM : (scoreT q k s' j t' { accT v s' t st with O := O }).M = L.m := h.m
  refine ⟨?_, ?_, ?_, ?_, ?_⟩
  · rw [h1, score_S, if_pos rfl]; rfl
  · rw [h6, hS, hM]; rfl
  · rw [h4, hS, hM]; rfl
  · rw [h5, hS, hM]; rfl
  · rw [h2]; exact acc_C v t h

/-- Tile `n` of keys. -/
abbrev tn (n : ℕ) : Fin 32 := ⟨n % 32, Nat.mod_lt _ (by omega)⟩

/-- A row of queries after its tile `n`, from the five arrays after its first tile. -/
def tilesL (q k v : S1x1x16384x128.Idx → Elt F .bf16) (j : Fin 32) (L : Lg F) : ℕ → Lg F
  | 0 => L
  | n + 1 => stepL (fun x => x) v (tn n) (sc q k j (tn (n + 2))) (tilesL q k v j L n)

/-- A row of queries: its thirty-two tiles. -/
def rowL (q k v : S1x1x16384x128.Idx → Elt F .bf16) (j : Fin 32) (L : Lg F) : Lg F :=
  stepL (fun x => x) v 30 (sc q k ⟨min (j.val + 1) 31, by omega⟩ 0)
    (tilesL q k v j (stepL (restartM 1#1) v 31 (sc q k j 1) L) 30)

/-- The five arrays before row `j` of queries. -/
def rowsL (q k v : S1x1x16384x128.Idx → Elt F .bf16) : ℕ → Lg F
  | 0 => ⟨sc q k 0 0, broadcast S512x512 (Scalar.ofBits .bf16 0x0000#16 : F .bf16), broadcast S512x128 (Scalar.ofBits .f32 0x00000000#32 : F .f32),
      broadcast S512x128 (Scalar.ofBits .f32 0x3F800000#32 : F .f32), broadcast S512x128 (Scalar.ofBits .f32 0x3F800000#32 : F .f32)⟩
  | j + 1 => rowL q k v (tn j) (rowsL q k v j)

/-- Row `j` of the result. -/
def rowO (q k v : S1x1x16384x128.Idx → Elt F .bf16) (w : BitVec 1) (j : ℕ) : FVec F S512x128 .bf16 :=
  em w (ac v 31 (rowsL q k v (j + 1)).p (rowsL q k v (j + 1)).a (rowsL q k v (j + 1)).c)

/-- The result's block, from the queries, keys and values alone. -/
def outB (q k v : S1x1x16384x128.Idx → Elt F .bf16) (w : BitVec 1) : S1x1x16384x128.Idx → Elt F .bf16 := fun y =>
  rowO q k v w ((y 2).val / 512) (ix2 (⟨(y 2).val % 512, Nat.mod_lt _ (by omega)⟩ : Fin 512) (y 3 : Fin 128))

/-! ## The kernel's state -/

theorem soft_O (ρ : FVec F S64x128 .f32 → FVec F S64x128 .f32) (s : Fin 2) (st : St F) : (softF ρ s st).O = st.O := (soft_spec ρ s st).2.2.1

theorem tiles_holds (q k v : S1x1x16384x128.Idx → Elt F .bf16) (j : Fin 32) {st : St F} {L : Lg F} (h : Holds 1 0 st L) (n : ℕ) (hn : n ≤ 30) :
    Holds (slotOf (n + 1)) (slotOf n) (tilesT q k v j n hn st) (tilesL q k v j L n) := by
  induction n with
  | zero => exact h
  | succ n ih =>
    have e2 : slotOf (n + 1 + 1) = slotOf n := Fin.ext (by show (n + 1 + 1) % 2 = n % 2; omega)
    rw [e2]
    have hs : slotOf (n + 1) ≠ slotOf n := fun h => by
      have : (n + 1) % 2 = n % 2 := congrArg Fin.val h
      omega
    have := (ih (by omega)).step (st' := accT v (slotOf n) ⟨n, by omega⟩ (tilesT q k v j n (by omega) st)) hs (fun x => x) q k v ⟨n, by omega⟩ j ⟨n + 2, by omega⟩
      ⟨(tilesT q k v j n (by omega) st).O, rfl⟩
    rw [show (⟨n, by omega⟩ : Fin 32) = tn n from Fin.ext (Nat.mod_eq_of_lt (by omega)).symm,
      show (⟨n + 2, by omega⟩ : Fin 32) = tn (n + 2) from Fin.ext (Nat.mod_eq_of_lt (by omega)).symm] at this
    have e3 : tilesT q k v j (n + 1) hn st = softF (fun x => x) (slotOf (n + 1))
        (scoreT q k (slotOf n) j (tn (n + 2)) (accT v (slotOf n) (tn n) (tilesT q k v j n (by omega) st))) := by
      rw [show tn n = (⟨n, by omega⟩ : Fin 32) from Fin.ext (Nat.mod_eq_of_lt (by omega)),
        show tn (n + 2) = (⟨n + 2, by omega⟩ : Fin 32) from Fin.ext (Nat.mod_eq_of_lt (by omega))]
      rfl
    rw [e3]
    exact this

theorem tiles_O (q k v : S1x1x16384x128.Idx → Elt F .bf16) (j : Fin 32) (st : St F) (n : ℕ) (hn : n ≤ 30) : (tilesT q k v j n hn st).O = st.O := by
  induction n with
  | zero => rfl
  | succ n ih => exact (soft_O _ _ _).trans (ih (by omega))

attribute [local irreducible] softF tilesT tilesL

theorem trip_holds (q k v : S1x1x16384x128.Idx → Elt F .bf16) (w : BitVec 1) (j : Fin 32) {st : St F} {L : Lg F} (h : Holds 0 1 st L) :
    Holds 0 1 (tripT q k v w j st) (rowL q k v j L) := by
  have h1 := h.step (by decide) (restartM 1#1) q k v 31 j 1 (st' := emitT w ⟨j.val - 1, by omega⟩ (accT v 1 31 st))
    ⟨(emitT w ⟨j.val - 1, by omega⟩ (accT v 1 31 st)).O, rfl⟩
  have h2 : Holds 1 0 (tilesT q k v j 30 (le_refl _) (headT q k v w 1#1 ⟨j.val - 1, by omega⟩ j st)) _ := tiles_holds q k v j h1 30 (le_refl _)
  exact h2.step (by decide) (fun x => x) q k v 30 ⟨min (j.val + 1) 31, by omega⟩ 0
    (st' := accT v 0 30 (tilesT q k v j 30 (le_refl _) (headT q k v w 1#1 ⟨j.val - 1, by omega⟩ j st)))
    ⟨(tilesT q k v j 30 (le_refl _) (headT q k v w 1#1 ⟨j.val - 1, by omega⟩ j st)).O, rfl⟩

theorem trip_O (q k v : S1x1x16384x128.Idx → Elt F .bf16) (w : BitVec 1) (j : Fin 32) (st : St F) :
    (tripT q k v w j st).O = (emitT w ⟨j.val - 1, by omega⟩ (accT v 1 31 st)).O :=
  (soft_O _ _ _).trans ((tiles_O _ _ _ _ _ _ _).trans (soft_O _ _ _))

theorem emit_O (w : BitVec 1) (j : Fin 32) (st : St F) (i : Fin 16384) (l : Fin 128) :
    (emitT w j st).O (ix4 (0 : Fin 1) (0 : Fin 1) i l)
      = if i.val / 512 = j.val then em w st.C (ix2 (⟨i.val % 512, by omega⟩ : Fin 512) l) else st.O (ix4 (0 : Fin 1) (0 : Fin 1) i l) := by
  show VecWindow.put st.O (oT j) S1x1x512x128.size (shapeCast S1x1x512x128 (em w st.C) c4) _ = _
  rw [put_oT]
  by_cases e : i.val / 512 = j.val
  · rw [if_pos e, if_pos e]
    refine shapeCast_apply _ _ _ _ ?_
    rw [Shape.rowMajor_val_four, Shape.rowMajor_val_two]
    show i.val % 512 * 128 + l.val = ((0 * 1 + 0) * 512 + i.val % 512) * 128 + l.val
    omega
  · rw [if_neg e, if_neg e]

theorem rows_holds (q k v : S1x1x16384x128.Idx → Elt F .bf16) (w : BitVec 1) (st : St F) (n : ℕ) (hn : n ≤ 32) :
    Holds 0 1 (rowsT q k v w st n) (rowsL q k v n) := by
  induction n with
  | zero =>
    refine ⟨?_, ?_, ?_, ?_, ?_⟩
    · show slot (scoreT q k 0 0 0 _).S 0 = _
      rw [score_S, if_pos rfl]; rfl
    · funext y
      obtain ⟨a, b, rfl⟩ : ∃ (a : Fin 512) (b : Fin 512), y = ix2 a b := ⟨y 0, y 1, eq_ix2 y⟩
      show VecWindow.put st.P (oP 1) S1x512x512.size (shapeCast S1x512x512 (broadcast S512x512 (Scalar.ofBits .bf16 0x0000#16 : F .bf16)) c2)
        (ix3 (1 : Fin 2) a b) = _
      rw [put_oP, if_pos rfl, shapeCast_ab_1ab_apply]; rfl
    · show (shapeCast S512x128 (broadcast S512x128 (Scalar.ofBits .f32 0x00000000#32 : F .f32)) c0 : FVec F S512x128 .f32) = _
      rw [cast_self]; rfl
    · show (shapeCast S512x128 (broadcast S512x128 (Scalar.ofBits .f32 0x3F800000#32 : F .f32)) c0 : FVec F S512x128 .f32) = _
      rw [cast_self]; rfl
    · show (shapeCast S512x128 (broadcast S512x128 (Scalar.ofBits .f32 0x3F800000#32 : F .f32)) c0 : FVec F S512x128 .f32) = _
      rw [cast_self]; rfl
  | succ n ih =>
    have hlt : n < 32 := by omega
    have := trip_holds q k v w ⟨n, hlt⟩ (ih (by omega))
    have e : rowsT q k v w st (n + 1) = tripT q k v w ⟨n, hlt⟩ (rowsT q k v w st n) := dif_pos hlt
    rw [e]
    rw [show rowsL q k v (n + 1) = rowL q k v ⟨n, hlt⟩ (rowsL q k v n) by
      rw [show (⟨n, hlt⟩ : Fin 32) = tn n from Fin.ext (Nat.mod_eq_of_lt hlt).symm]; rfl]
    exact this

theorem rows_O (q k v : S1x1x16384x128.Idx → Elt F .bf16) (w : BitVec 1) (st : St F) (n : ℕ) (hn : n ≤ 32) (i : Fin 16384) (l : Fin 128)
    (hi : i.val / 512 + 1 < n) : (rowsT q k v w st n).O (ix4 (0 : Fin 1) (0 : Fin 1) i l) = outB q k v w (ix4 (0 : Fin 1) (0 : Fin 1) i l) := by
  induction n with
  | zero => omega
  | succ n ih =>
    have hlt : n < 32 := by omega
    have e : rowsT q k v w st (n + 1) = tripT q k v w ⟨n, hlt⟩ (rowsT q k v w st n) := dif_pos hlt
    rw [e, trip_O, emit_O]
    by_cases e' : i.val / 512 = n - 1
    · rw [if_pos e', acc_C v 31 (rows_holds q k v w st n (by omega))]
      show _ = rowO q k v w (i.val / 512) _
      rw [show n = i.val / 512 + 1 by omega]; rfl
    · rw [if_neg e']
      exact ih (by omega) (by omega)

/-- Whatever the buffers held, the kernel leaves the result's block at `outB` of the queries, keys and values. -/
theorem fin_O (q k v : S1x1x16384x128.Idx → Elt F .bf16) (w : BitVec 1) (st : St F) : (finT q k v w st).O = outB q k v w := by
  funext y
  obtain ⟨a, b, i, l, rfl⟩ : ∃ (a b : Fin 1) (i : Fin 16384) (l : Fin 128), y = ix4 a b i l := ⟨y 0, y 1, y 2, y 3, eq_ix4 y⟩
  obtain rfl : a = 0 := Fin.ext (by omega)
  obtain rfl : b = 0 := Fin.ext (by omega)
  unfold finT
  rw [emit_O]
  by_cases e : i.val / 512 = (31 : Fin 32).val
  · rw [if_pos e, acc_C v 31 (rows_holds q k v w st 32 (le_refl _))]
    show _ = rowO q k v w (i.val / 512) _
    rw [show i.val / 512 = 31 from e]; rfl
  · rw [if_neg e]
    have e' : i.val / 512 ≠ 31 := e
    exact rows_O q k v w st 32 (le_refl _) i l (by omega)

end Cert.Proof.Attn

end
-- ==== Proof.KernelIdealRun.lean ====
/-
  The attention kernel's program, run from any state of its buffers: the operations are the start, the first
  scores, the loop over the rows of queries, the last row's end.
-/
module

public import proofs.«01_k».proof.Proof.Gen.KernelIdeal.Frame
public import proofs.«01_k».proof.Proof.Tile

@[expose] public section

set_option synthInstance.maxSize 4096

noncomputable section

namespace Cert.KernelIdeal.Gen.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Attn (Side St Res restartM oT inT oS inS oP inP Ok7 wp_tile wp_head wp_init wp_scoreT wp_accT wp_emitT wp_rows wp_end tileT headT tripT rowsT finT initF scoreT)

variable {F : FTy → Type} [FloatOps F]
local notation "𝕄" => MT nD τ sig Unit (Elt F) ℕ (UR sig nD τ) ℕ

instance : Side where
  c0 := shapeCasts_S512x128_S512x128
  c1 := shapeCasts_S1x512x512_S512x512
  c2 := shapeCasts_S512x512_S1x512x512
  c3 := shapeCasts_S1x1x512x128_S512x128
  c4 := shapeCasts_S512x128_S1x1x512x128
  c5 := shapeCasts_S1x64x128_S64x128
  c6 := shapeCasts_S64x128_S1x64x128
  c7 := shapeCasts_S64_S64x1
  c8 := shapeCasts_S64x128_S64x128
  s0 := slices_S512x128_o0_0_S512x1
  s1 := slices_S512x128_o0_64_S512x1
  e0 := broadcasts_S512x1_S512x128
  e1 := broadcasts_S64x1_S64x128
  r0 := reduces_S64x128_S64
  d0 := by decide
  d1 := by decide
  t0 := bitsLt_bf16_f32

theorem off1_eq : ∀ j : Fin k0_t1_loop.trips, k0_off1 j = oT 31 := by decide +kernel
theorem off2_eq : ∀ j : Fin k0_t1_loop.trips, k0_off2 j = oT ⟨j.val - 1, by have := j.isLt; have : k0_t1_loop.trips = 32 := rfl; omega⟩ := by decide +kernel
theorem off3_eq : ∀ j : Fin k0_t1_loop.trips, k0_off3 j = oT j := by decide +kernel
theorem off4_eq : ∀ (j : Fin k0_t1_loop.trips) (r : Fin 31), k0_off4 j (BitVec.ofNat 32 r.val) = oT ⟨r.val + 1, by omega⟩ := by decide +kernel
theorem off5_eq : ∀ (j : Fin k0_t1_loop.trips) (r : Fin 31), k0_off5 j (BitVec.ofNat 32 (1 + r.val)) = oT ⟨r.val, by omega⟩ := by decide +kernel
theorem off6_eq : ∀ j : Fin k0_t1_loop.trips, k0_off6 j = oT ⟨min (j.val + 1) 31, by omega⟩ := by decide +kernel
theorem off7_eq : ∀ j : Fin k0_t1_loop.trips, k0_off7 j = oT 0 := by decide +kernel

variable (c : Dev nD) (i : grid0.Coords) (arg2 arg3 arg4 arg5 : Memref sig .tc .vmem S1x1x16384x128 .bf16) (harg2 : arg2.IsWhole) (harg3 : arg3.IsWhole) (harg4 : arg4.IsWhole) (harg5 : arg5.IsWhole)
  (arg6 : Memref sig .tc .vmem S2x512x512 .f32) (harg6 : arg6.IsWhole) (arg7 : Memref sig .tc .vmem S2x512x512 .bf16) (harg7 : arg7.IsWhole)
  (arg8 arg9 arg10 : Memref sig .tc .vmem S512x128 .f32) (harg8 : arg8.IsWhole) (harg9 : arg9.IsWhole) (harg10 : arg10.IsWhole)
  (q k v : S1x1x16384x128.Idx → Elt F .bf16)

include harg7 in
/-- The weights' strips can be stored. -/
theorem ok7 : Ok7 arg7 := fun s r b =>
  View.stores_vmem h_S1x64x128 (harg7.storeExact_slice rfl _ (by revert s r b; decide +kernel)) (fun _ => rfl)

/-- Whether the head is odd. -/
def odd (i : grid0.Coords) : BitVec 1 := BitVec.ofNat 1 (i 1).val

/-- The kernel's start: the starting values stored, the head's parity known. -/
theorem wp_start {β : Type} {st : St F} {Q : β → sProp 𝕄} {K} (h : ∀ x : BitVec 1, x = odd i → (Res (τ := τ) (U := UR sig nD τ) c arg2 arg3 arg4 arg5 arg6 arg7 arg8 arg9 arg10 q k v) (initF st (oP 1)) ⊢ (wp frame (wpE (defs₀ (F := F)) Variants.none (c : Thread nD τ) none) Set.univ) (K ⟨x, 0#32⟩) Q) :
    (Res (τ := τ) (U := UR sig nD τ) c arg2 arg3 arg4 arg5 arg6 arg7 arg8 arg9 arg10 q k v) st ⊢ (wp frame (wpE (defs₀ (F := F)) Variants.none (c : Thread nD τ) none) Set.univ) (k0_part406 i arg2 harg2 arg3 harg3 arg4 harg4 arg5 harg5 arg6 harg6 arg7 harg7 arg8 harg8 arg9 harg9 arg10 harg10 >>= K) Q := by
  refine wp_init c arg2 arg3 arg4 arg5 arg6 arg7 arg8 arg9 arg10 q k v defs₀ Variants.none none Set.univ (op := oP 1) (ip := inP 1) ?_
  exact h _ (by clear * - i; revert i; decide +kernel)

set_option maxRecDepth 100000 in
set_option maxHeartbeats 0 in
/-- The kernel's run from any state of its buffers ends in the state `finT`. -/
theorem run (st : St F) :
    (Res (τ := τ) (U := UR sig nD τ) c arg2 arg3 arg4 arg5 arg6 arg7 arg8 arg9 arg10 q k v) st ⊢ (wp frame (wpE (defs₀ (F := F)) Variants.none (c : Thread nD τ) none) Set.univ) (cc0_mla_attention i arg2 harg2 arg3 harg3 arg4 harg4 arg5 harg5 arg6 harg6 arg7 harg7 arg8 harg8 arg9 harg9 arg10 harg10)
      (fun _ => (Res (τ := τ) (U := UR sig nD τ) c arg2 arg3 arg4 arg5 arg6 arg7 arg8 arg9 arg10 q k v) (finT q k v (odd i) st)) := by
  refine wp_start c i arg2 arg3 arg4 arg5 harg2 harg3 harg4 harg5 arg6 harg6 arg7 harg7 arg8 arg9 arg10 harg8 harg9 harg10 q k v fun x hx => ?_
  subst hx
  refine wp_scoreT c arg2 arg3 arg4 arg5 arg6 arg7 arg8 arg9 arg10 q k v defs₀ Variants.none none Set.univ 0 0 0 rfl rfl ?_
  refine wp_rows c arg2 arg3 arg4 arg5 arg6 arg7 arg8 arg9 arg10 q k v defs₀ Variants.none none Set.univ (rowsT q k v (odd i) st) (fun j y => ?_) (fun y => ?_)
  · have ej : rowsT q k v (odd i) st (j.val + 1) = tripT q k v (odd i) j (rowsT q k v (odd i) st j.val) := dif_pos j.isLt
    rw [ej]
    generalize rowsT q k v (odd i) st j.val = st'
    refine wp_head c arg2 arg3 arg4 arg5 arg6 arg7 arg8 arg9 arg10 q k v defs₀ Variants.none none Set.univ (ok7 arg7 harg7) (odd i) (by clear * - j; revert j; decide +kernel) _ _ (off1_eq j) (off2_eq j) (off3_eq j) (off4_eq j 0) ?_
    refine wp_tile c arg2 arg3 arg4 arg5 arg6 arg7 arg8 arg9 arg10 q k v defs₀ Variants.none none Set.univ (ok7 arg7 harg7) 1 0 _ _ _ (off5_eq j 0) (off3_eq j) (off4_eq j 1) ?_
    refine wp_tile c arg2 arg3 arg4 arg5 arg6 arg7 arg8 arg9 arg10 q k v defs₀ Variants.none none Set.univ (ok7 arg7 harg7) 0 1 _ _ _ (off5_eq j 1) (off3_eq j) (off4_eq j 2) ?_
    refine wp_tile c arg2 arg3 arg4 arg5 arg6 arg7 arg8 arg9 arg10 q k v defs₀ Variants.none none Set.univ (ok7 arg7 harg7) 1 0 _ _ _ (off5_eq j 2) (off3_eq j) (off4_eq j 3) ?_
    refine wp_tile c arg2 arg3 arg4 arg5 arg6 arg7 arg8 arg9 arg10 q k v defs₀ Variants.none none Set.univ (ok7 arg7 harg7) 0 1 _ _ _ (off5_eq j 3) (off3_eq j) (off4_eq j 4) ?_
    refine wp_tile c arg2 arg3 arg4 arg5 arg6 arg7 arg8 arg9 arg10 q k v defs₀ Variants.none none Set.univ (ok7 arg7 harg7) 1 0 _ _ _ (off5_eq j 4) (off3_eq j) (off4_eq j 5) ?_
    refine wp_tile c arg2 arg3 arg4 arg5 arg6 arg7 arg8 arg9 arg10 q k v defs₀ Variants.none none Set.univ (ok7 arg7 harg7) 0 1 _ _ _ (off5_eq j 5) (off3_eq j) (off4_eq j 6) ?_
    refine wp_tile c arg2 arg3 arg4 arg5 arg6 arg7 arg8 arg9 arg10 q k v defs₀ Variants.none none Set.univ (ok7 arg7 harg7) 1 0 _ _ _ (off5_eq j 6) (off3_eq j) (off4_eq j 7) ?_
    refine wp_tile c arg2 arg3 arg4 arg5 arg6 arg7 arg8 arg9 arg10 q k v defs₀ Variants.none none Set.univ (ok7 arg7 harg7) 0 1 _ _ _ (off5_eq j 7) (off3_eq j) (off4_eq j 8) ?_
    refine wp_tile c arg2 arg3 arg4 arg5 arg6 arg7 arg8 arg9 arg10 q k v defs₀ Variants.none none Set.univ (ok7 arg7 harg7) 1 0 _ _ _ (off5_eq j 8) (off3_eq j) (off4_eq j 9) ?_
    refine wp_tile c arg2 arg3 arg4 arg5 arg6 arg7 arg8 arg9 arg10 q k v defs₀ Variants.none none Set.univ (ok7 arg7 harg7) 0 1 _ _ _ (off5_eq j 9) (off3_eq j) (off4_eq j 10) ?_
    refine wp_tile c arg2 arg3 arg4 arg5 arg6 arg7 arg8 arg9 arg10 q k v defs₀ Variants.none none Set.univ (ok7 arg7 harg7) 1 0 _ _ _ (off5_eq j 10) (off3_eq j) (off4_eq j 11) ?_
    refine wp_tile c arg2 arg3 arg4 arg5 arg6 arg7 arg8 arg9 arg10 q k v defs₀ Variants.none none Set.univ (ok7 arg7 harg7) 0 1 _ _ _ (off5_eq j 11) (off3_eq j) (off4_eq j 12) ?_
    refine wp_tile c arg2 arg3 arg4 arg5 arg6 arg7 arg8 arg9 arg10 q k v defs₀ Variants.none none Set.univ (ok7 arg7 harg7) 1 0 _ _ _ (off5_eq j 12) (off3_eq j) (off4_eq j 13) ?_
    refine wp_tile c arg2 arg3 arg4 arg5 arg6 arg7 arg8 arg9 arg10 q k v defs₀ Variants.none none Set.univ (ok7 arg7 harg7) 0 1 _ _ _ (off5_eq j 13) (off3_eq j) (off4_eq j 14) ?_
    refine wp_tile c arg2 arg3 arg4 arg5 arg6 arg7 arg8 arg9 arg10 q k v defs₀ Variants.none none Set.univ (ok7 arg7 harg7) 1 0 _ _ _ (off5_eq j 14) (off3_eq j) (off4_eq j 15) ?_
    refine wp_tile c arg2 arg3 arg4 arg5 arg6 arg7 arg8 arg9 arg10 q k v defs₀ Variants.none none Set.univ (ok7 arg7 harg7) 0 1 _ _ _ (off5_eq j 15) (off3_eq j) (off4_eq j 16) ?_
    refine wp_tile c arg2 arg3 arg4 arg5 arg6 arg7 arg8 arg9 arg10 q k v defs₀ Variants.none none Set.univ (ok7 arg7 harg7) 1 0 _ _ _ (off5_eq j 16) (off3_eq j) (off4_eq j 17) ?_
    refine wp_tile c arg2 arg3 arg4 arg5 arg6 arg7 arg8 arg9 arg10 q k v defs₀ Variants.none none Set.univ (ok7 arg7 harg7) 0 1 _ _ _ (off5_eq j 17) (off3_eq j) (off4_eq j 18) ?_
    refine wp_tile c arg2 arg3 arg4 arg5 arg6 arg7 arg8 arg9 arg10 q k v defs₀ Variants.none none Set.univ (ok7 arg7 harg7) 1 0 _ _ _ (off5_eq j 18) (off3_eq j) (off4_eq j 19) ?_
    refine wp_tile c arg2 arg3 arg4 arg5 arg6 arg7 arg8 arg9 arg10 q k v defs₀ Variants.none none Set.univ (ok7 arg7 harg7) 0 1 _ _ _ (off5_eq j 19) (off3_eq j) (off4_eq j 20) ?_
    refine wp_tile c arg2 arg3 arg4 arg5 arg6 arg7 arg8 arg9 arg10 q k v defs₀ Variants.none none Set.univ (ok7 arg7 harg7) 1 0 _ _ _ (off5_eq j 20) (off3_eq j) (off4_eq j 21) ?_
    refine wp_tile c arg2 arg3 arg4 arg5 arg6 arg7 arg8 arg9 arg10 q k v defs₀ Variants.none none Set.univ (ok7 arg7 harg7) 0 1 _ _ _ (off5_eq j 21) (off3_eq j) (off4_eq j 22) ?_
    refine wp_tile c arg2 arg3 arg4 arg5 arg6 arg7 arg8 arg9 arg10 q k v defs₀ Variants.none none Set.univ (ok7 arg7 harg7) 1 0 _ _ _ (off5_eq j 22) (off3_eq j) (off4_eq j 23) ?_
    refine wp_tile c arg2 arg3 arg4 arg5 arg6 arg7 arg8 arg9 arg10 q k v defs₀ Variants.none none Set.univ (ok7 arg7 harg7) 0 1 _ _ _ (off5_eq j 23) (off3_eq j) (off4_eq j 24) ?_
    refine wp_tile c arg2 arg3 arg4 arg5 arg6 arg7 arg8 arg9 arg10 q k v defs₀ Variants.none none Set.univ (ok7 arg7 harg7) 1 0 _ _ _ (off5_eq j 24) (off3_eq j) (off4_eq j 25) ?_
    refine wp_tile c arg2 arg3 arg4 arg5 arg6 arg7 arg8 arg9 arg10 q k v defs₀ Variants.none none Set.univ (ok7 arg7 harg7) 0 1 _ _ _ (off5_eq j 25) (off3_eq j) (off4_eq j 26) ?_
    refine wp_tile c arg2 arg3 arg4 arg5 arg6 arg7 arg8 arg9 arg10 q k v defs₀ Variants.none none Set.univ (ok7 arg7 harg7) 1 0 _ _ _ (off5_eq j 26) (off3_eq j) (off4_eq j 27) ?_
    refine wp_tile c arg2 arg3 arg4 arg5 arg6 arg7 arg8 arg9 arg10 q k v defs₀ Variants.none none Set.univ (ok7 arg7 harg7) 0 1 _ _ _ (off5_eq j 27) (off3_eq j) (off4_eq j 28) ?_
    refine wp_tile c arg2 arg3 arg4 arg5 arg6 arg7 arg8 arg9 arg10 q k v defs₀ Variants.none none Set.univ (ok7 arg7 harg7) 1 0 _ _ _ (off5_eq j 28) (off3_eq j) (off4_eq j 29) ?_
    refine wp_tile c arg2 arg3 arg4 arg5 arg6 arg7 arg8 arg9 arg10 q k v defs₀ Variants.none none Set.univ (ok7 arg7 harg7) 0 1 _ _ _ (off5_eq j 29) (off3_eq j) (off4_eq j 30) ?_
    refine wp_tile c arg2 arg3 arg4 arg5 arg6 arg7 arg8 arg9 arg10 q k v defs₀ Variants.none none Set.univ (ok7 arg7 harg7) 1 0 _ _ _ (off5_eq j 30) (off6_eq j) (off7_eq j) ?_
    exact wp_end c arg2 arg3 arg4 arg5 arg6 arg7 arg8 arg9 arg10 q k v defs₀ Variants.none none Set.univ
  · refine wp_accT c arg2 arg3 arg4 arg5 arg6 arg7 arg8 arg9 arg10 q k v defs₀ Variants.none none Set.univ 1 31 (by rfl) ?_
    refine wp_emitT c arg2 arg3 arg4 arg5 arg6 arg7 arg8 arg9 arg10 q k v defs₀ Variants.none none Set.univ (odd i) 31 (by rfl) ?_
    exact wp_end c arg2 arg3 arg4 arg5 arg6 arg7 arg8 arg9 arg10 q k v defs₀ Variants.none none Set.univ

end Cert.KernelIdeal.Gen.Attn

end
-- ==== Proof.KernelIdealFrame.lean ====
/-
  The attention call's frame: at every point of the grid the kernel, run from any contents of its scratch buffers,
  leaves its inputs' blocks as they were and its result's block at `outB` of them; so the whole call terminates and
  leaves its argument arrays unchanged.
-/
module

public import proofs.«01_k».proof.Proof.KernelIdealRun
public import proofs.«01_k».proof.Proof.Det
public import Idealize.ShloMosaic.Lib.Pipeline.TableIdle
public import Idealize.ShloMosaic.Lib.Tactic
public import Idealize.ShloMosaic.PureOps.BitExact

@[expose] public section

set_option synthInstance.maxSize 4096

noncomputable section

namespace Cert.KernelIdeal.Gen.Attn

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Cert.Proof.Attn (Side St Res finT outB fin_O)

variable {F : FTy → Type} [FloatOps F]

/-- The proof's resource algebra. -/
local notation "𝕄" => MT nD τ sig Unit (Elt F) ℕ (UR sig nD τ) ℕ

abbrev 𝒱₀ : Variants := Variants.none

/-! ## The kernel on owned memrefs -/

section
variable (c : Dev nD) (i : grid0.Coords) (arg2 arg3 arg4 arg5 : Memref sig .tc .vmem S1x1x16384x128 .bf16) (harg2 : arg2.IsWhole) (harg3 : arg3.IsWhole) (harg4 : arg4.IsWhole) (harg5 : arg5.IsWhole)
  (q k v : S1x1x16384x128.Idx → Elt F .bf16)

/-- A scratch buffer at any contents is that buffer owned at some contents. -/
abbrev anyW (c : Dev nD) (b : Ref sig .tc) : sProp 𝕄 :=
  iprop(∃ f : Buf (Elt F) ((c : Thread nD τ).loc b), ((c : Thread nD τ).loc b) ↦{fullShare} f)

/-- The kernel at one point of the grid: its inputs owned at `q`, `k`, `v`, its result and its five scratch buffers at
    anything, it leaves the inputs, the result at `outB`, and the scratch buffers at something. -/
theorem triple :
    iprop(owns (c : Thread nD τ) arg2 fullShare q ∗ owns (c : Thread nD τ) arg3 fullShare k ∗ owns (c : Thread nD τ) arg4 fullShare v
        ∗ (∃ d, owns (c : Thread nD τ) arg5 fullShare d)
        ∗ (anyW (F := F) c cc0_scratch0 ∗ anyW (F := F) c cc0_scratch1 ∗ anyW (F := F) c cc0_scratch2 ∗ anyW (F := F) c cc0_scratch3 ∗ anyW (F := F) c cc0_scratch4))
      ⊢ (wp frame (wpE (defs₀ (F := F)) 𝒱₀ (c : Thread nD τ) none) Set.univ
          (cc0_mla_attention i arg2 harg2 arg3 harg3 arg4 harg4 arg5 harg5 (Memref.whole cc0_scratch0) (Memref.isWhole_whole _) (Memref.whole cc0_scratch1) (Memref.isWhole_whole _)
            (Memref.whole cc0_scratch2) (Memref.isWhole_whole _) (Memref.whole cc0_scratch3) (Memref.isWhole_whole _) (Memref.whole cc0_scratch4) (Memref.isWhole_whole _))
          (fun _ => iprop(owns (c : Thread nD τ) arg2 fullShare q ∗ owns (c : Thread nD τ) arg3 fullShare k ∗ owns (c : Thread nD τ) arg4 fullShare v
            ∗ owns (c : Thread nD τ) arg5 fullShare (outB q k v (odd i))
            ∗ (anyW (F := F) c cc0_scratch0 ∗ anyW (F := F) c cc0_scratch1 ∗ anyW (F := F) c cc0_scratch2 ∗ anyW (F := F) c cc0_scratch3 ∗ anyW (F := F) c cc0_scratch4))) : sProp 𝕄) := by
  iintro ⟨H2, H3, H4, ⟨%o, H5⟩, ⟨%f0, H6⟩, ⟨%f1, H7⟩, ⟨%f2, H8⟩, ⟨%f3, H9⟩, ⟨%f4, H10⟩⟩
  have key := (run c i arg2 arg3 arg4 arg5 harg2 harg3 harg4 harg5 (Memref.whole cc0_scratch0) (Memref.isWhole_whole _) (Memref.whole cc0_scratch1) (Memref.isWhole_whole _)
    (Memref.whole cc0_scratch2) (Memref.whole cc0_scratch3) (Memref.whole cc0_scratch4) (Memref.isWhole_whole _) (Memref.isWhole_whole _) (Memref.isWhole_whole _) q k v ⟨f0, f1, f2, f3, f4, o⟩).trans
    (wp_mono frame (wpE (defs₀ (F := F)) 𝒱₀ (c : Thread nD τ) none) Set.univ (Q' := fun _ => iprop(owns (c : Thread nD τ) arg2 fullShare q ∗ owns (c : Thread nD τ) arg3 fullShare k ∗ owns (c : Thread nD τ) arg4 fullShare v
            ∗ owns (c : Thread nD τ) arg5 fullShare (outB q k v (odd i))
            ∗ (anyW (F := F) c cc0_scratch0 ∗ anyW (F := F) c cc0_scratch1 ∗ anyW (F := F) c cc0_scratch2 ∗ anyW (F := F) c cc0_scratch3 ∗ anyW (F := F) c cc0_scratch4))) fun _ => by
      unfold Res
      rw [fin_O]
      generalize finT q k v (odd i) _ = st
      unfold Cert.Proof.Attn.own
      rw [← owns_eq_rep, ← owns_eq_rep, ← owns_eq_rep, ← owns_eq_rep, ← owns_eq_rep, ← owns_eq_rep, ← owns_eq_rep, ← owns_eq_rep, ← owns_eq_rep]
      rw [owns_whole, owns_whole, owns_whole, owns_whole, owns_whole]
      iintro ⟨H2, H3, H4, H5, H6, H7, H8, H9, H10⟩
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      iexists _; iexact H10)
  iapply key
  unfold Res Cert.Proof.Attn.own
  rw [← owns_eq_rep, ← owns_eq_rep, ← owns_eq_rep, ← owns_eq_rep, ← owns_eq_rep, ← owns_eq_rep, ← owns_eq_rep, ← owns_eq_rep, ← owns_eq_rep]
  rw [owns_whole, owns_whole, owns_whole, owns_whole, owns_whole]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
end

variable (m : (ℓ : Loc nD τ sig) → Buf (Elt F) ℓ) (ρ : Dev nD → PrngReg)

/-- The arrays as the call finds them; after the body each input's buffer at its block and the result's at `outB` of
    the three blocks; the invariant the scratch buffers at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB (iblk m c 0 t) (iblk m c 1 t) (iblk m c 2 t) (odd (grid0.coords t))
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outB (iblk m c 0 t) (iblk m c 1 t) (iblk m c 2 t) (odd (grid0.coords t)) := by dsimp only [dats]

/-- Each input's staging buffer holds its block when the body runs. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The body at every point: from the blocks fetched and the scratch buffers at anything, to the same with the
    result's block written. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3]
  unfold Pipeline.ΦA
  rw [scopedRest0_eq]
  iintro ⟨⟨HS, HR⟩, Ho, ⟨%d0, H0⟩, ⟨%d1, H1⟩, ⟨%d2, H2⟩, ⟨%d3, H3⟩⟩
  iapply (wp_wand_r frame (wpE (defs₀ (F := F)) 𝒱₀ (c : Thread nD τ) none) Set.univ)
  isplitl [HS H0 H1 H2 H3]
  · iapply (triple c (grid0.coords t) (win0_0.stage (cfg0.slots t 0)) (win0_1.stage (cfg0.slots t 1)) (win0_2.stage (cfg0.slots t 2)) (win0_3.stage (cfg0.slots t 3)) _ _ _ _ (iblk m c 0 t) (iblk m c 1 t) (iblk m c 2 t))
    isplitl [H0]; · iexact H0
    isplitl [H1]; · iexact H1
    isplitl [H2]; · iexact H2
    isplitl [H3]; · iexists _; iexact H3
    iexact HS
  · iintro %_ ⟨H0, H1, H2, H3, HS⟩
    isplitl [HS HR]
    · isplitl [HS]; · iexact HS
      iexact HR
    isplitl [Ho]; · iexact Ho
    isplitl [H0]; · iexact H0
    isplitl [H1]; · iexact H1
    isplitl [H2]; · iexact H2
    iexact H3

set_option backward.isDefEq.respectTransparency.types false in
/-- From any memory with zero counters every fair execution of the call terminates, the arrays at what the blocks
    written back make them and the counters at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- From any memory with zero counters every fair execution terminates with the argument arrays unchanged and the
    counters at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main (F := F) m ρ)

end Cert.KernelIdeal.Gen.Attn

end
-- ==== Proof.Softmax.lean ====
/-
  The running softmax over extended reals: weights taken against any real maximum, rescaled when the maximum moves,
  and divided at the end by their own sum, are the softmax weights, whatever the maximum.
-/
module

public import Idealize.ShloMosaic.Lib.Pointwise
public import Idealize.ShloMosaic.Lib.IdealHost

@[expose] public section

set_option maxRecDepth 16384

noncomputable section

namespace Cert.Proof.Attn

open Idealize.ShloMosaic

/-- Two to a real power, as an extended real. -/
def w2 (r : ℝ) : EReal := ((Real.rpow 2 r : ℝ) : EReal)

theorem w2_eq (r : ℝ) : Ideal.exp2 (r : EReal) = w2 r := rfl
theorem rp_pos (r : ℝ) : 0 < Real.rpow 2 r := Real.rpow_pos_of_pos (by norm_num) r
theorem w2_mul (a b : ℝ) : w2 a * w2 b = w2 (a + b) := by
  unfold w2
  rw [← EReal.coe_mul]
  exact congrArg _ (Real.rpow_add (by norm_num) a b).symm

/-- A real, not negative, goes through a finite sum of extended reals. -/
theorem sum_mul_real {ι : Type*} (s : Finset ι) (x : ι → EReal) (r : ℝ) (hr : 0 ≤ r) : (∑ i ∈ s, x i) * (r : EReal) = ∑ i ∈ s, x i * (r : EReal) := by
  classical
  induction s using Finset.induction_on with
  | empty => simp
  | insert a s h ih =>
    rw [Finset.sum_insert h, Finset.sum_insert h, ← ih, mul_comm, EReal.left_distrib_of_nonneg_of_ne_top (by exact_mod_cast hr) (EReal.coe_ne_top r),
      mul_comm (r : EReal) (x a), mul_comm (r : EReal)]

/-- A finite sum of reals is the real sum. -/
theorem sum_real {ι : Type*} (s : Finset ι) (x : ι → ℝ) : (∑ i ∈ s, (x i : EReal)) = ((∑ i ∈ s, x i : ℝ) : EReal) := by
  classical
  induction s using Finset.induction_on with
  | empty => simp
  | insert a s h ih => rw [Finset.sum_insert h, Finset.sum_insert h, ih, EReal.coe_add]

/-- The largest of finitely many reals is real. -/
theorem fold_real {n : ℕ} (hn : 0 < n) (g : Fin n → EReal) (hg : ∀ u, ∃ r : ℝ, g u = r) : ∃ r : ℝ, Finset.univ.fold max ⊥ g = (r : EReal) := by
  have h1 : Finset.univ.fold max ⊥ g < ⊤ := (Finset.fold_max_lt _).mpr ⟨bot_lt_top, fun u _ => by obtain ⟨r, e⟩ := hg u; rw [e]; exact EReal.coe_lt_top r⟩
  have h2 : ⊥ < Finset.univ.fold max ⊥ g := (Finset.lt_fold_max _).mpr (.inr ⟨⟨0, hn⟩, Finset.mem_univ _, by obtain ⟨r, e⟩ := hg ⟨0, hn⟩; rw [e]; exact EReal.bot_lt_coe r⟩)
  exact ⟨_, (EReal.coe_toReal h1.ne h2.ne').symm⟩

theorem max_real {x y : EReal} (hx : ∃ r : ℝ, x = r) (hy : ∃ r : ℝ, y = r) : ∃ r : ℝ, max x y = (r : EReal) := by
  rcases max_choice x y with h | h <;> rw [h] <;> assumption

theorem max_real' {x y : EReal} (hx : x ≠ ⊤) (hy : ∃ r : ℝ, y = r) : ∃ r : ℝ, max x y = (r : EReal) := by
  obtain ⟨r, rfl⟩ := hy
  have h1 : max x (r : EReal) < ⊤ := max_lt (lt_top_iff_ne_top.mpr hx) (EReal.coe_lt_top r)
  have h2 : ⊥ < max x (r : EReal) := lt_max_of_lt_right (EReal.bot_lt_coe r)
  exact ⟨_, (EReal.coe_toReal h1.ne h2.ne').symm⟩

/-- The weighted values of the first `n` tiles, the weights taken against `μ`. -/
def G (f : ℕ → Fin 512 → ℝ) (V : ℕ → Fin 512 → EReal) (μ : ℝ) (n : ℕ) : EReal :=
  ∑ t ∈ Finset.range n, ∑ u : Fin 512, w2 (f t u - μ) * V t u

theorem G_succ (f V μ n) : G f V μ (n + 1) = G f V μ n + ∑ u : Fin 512, w2 (f n u - μ) * V n u := Finset.sum_range_succ _ _

/-- Rescaling moves the maximum. -/
theorem G_scale (f V) (μ μ' : ℝ) (n : ℕ) : G f V μ n * w2 (μ - μ') = G f V μ' n := by
  unfold G
  rw [show w2 (μ - μ') = ((Real.rpow 2 (μ - μ') : ℝ) : EReal) from rfl, sum_mul_real _ _ _ (rp_pos _).le]
  refine Finset.sum_congr rfl fun t _ => ?_
  rw [sum_mul_real _ _ _ (rp_pos _).le]
  refine Finset.sum_congr rfl fun u _ => ?_
  rw [mul_right_comm]
  refine congrArg (· * V t u) ?_
  show w2 _ * w2 _ = _
  rw [w2_mul]; congr 1; ring

/-- A sum over the keys, tile by tile. -/
theorem sum_keys (h : Fin 16384 → EReal) (h' : ℕ → Fin 512 → EReal)
    (e : ∀ (t : Fin 32) (u : Fin 512), h ⟨512 * t.val + u.val, by omega⟩ = h' t.val u) :
    ∑ K, h K = ∑ t ∈ Finset.range 32, ∑ u : Fin 512, h' t u := by
  rw [Fin.sum_univ_tiles 32 512 rfl h, Finset.sum_range]
  refine Finset.sum_congr rfl fun t _ => Finset.sum_congr rfl fun u _ => ?_
  rw [← e]
  exact congrArg h (Fin.ext (by show t.val * 512 + u.val = 512 * t.val + u.val; omega))

/-- The weighted values over the weights' sum are the softmax of the scores, scaled by `log 2`, against the values. -/
theorem softmax_ratio (s : Fin 16384 → ℝ) (V : Fin 16384 → EReal) (f : ℕ → Fin 512 → ℝ) (V' V₁ : ℕ → Fin 512 → EReal)
    (hf : ∀ (t : Fin 32) (u : Fin 512), s ⟨512 * t.val + u.val, by omega⟩ = f t.val u)
    (hV : ∀ (t : Fin 32) (u : Fin 512), V ⟨512 * t.val + u.val, by omega⟩ = V' t.val u)
    (h₁ : ∀ (t : ℕ) (u : Fin 512), V₁ t u = 1) (μ M : ℝ) :
    Ideal.div (G f V' μ 32) (G f V₁ μ 32)
      = ∑ K, Ideal.div (Ideal.exp ((s K : EReal) * (Real.log 2 : ℝ) - (M : EReal))) (0 + ∑ K', Ideal.exp ((s K' : EReal) * (Real.log 2 : ℝ) - (M : EReal))) * V K := by
  set lam : ℝ := Real.exp (μ * Real.log 2 - M) with hlam
  have lpos : 0 < lam := Real.exp_pos _
  have ew : ∀ x : ℝ, Ideal.exp ((x : EReal) * (Real.log 2 : ℝ) - (M : EReal)) = ((Real.rpow 2 (x - μ) * lam : ℝ) : EReal) := by
    intro x
    rw [← EReal.coe_mul, ← EReal.coe_sub, Ideal.exp_coe]
    refine congrArg _ ?_
    show _ = (2 : ℝ) ^ (x - μ) * lam
    rw [Real.rpow_def_of_pos (by norm_num), hlam, ← Real.exp_add]
    congr 1; ring
  set D : ℝ := ∑ K, Real.rpow 2 (s K - μ) with hD
  have Dpos : 0 < D := Finset.sum_pos (fun K _ => rp_pos _) (Finset.univ_nonempty_iff.mpr ⟨⟨0, by omega⟩⟩)
  have e1 : G f V₁ μ 32 = (D : EReal) := by
    unfold G
    rw [hD, ← sum_real]
    refine (sum_keys _ _ fun t u => ?_).symm
    rw [hf, h₁, mul_one]; rfl
  have e2 : G f V' μ 32 = ∑ K, w2 (s K - μ) * V K := by
    unfold G
    refine (sum_keys _ _ fun t u => ?_).symm
    rw [hf, hV]
  simp only [ew]
  rw [sum_real, ← Finset.sum_mul, ← hD, zero_add, e1, e2, Ideal.div_coe Dpos.ne', sum_mul_real _ _ _ (div_nonneg zero_le_one Dpos.le)]
  refine Finset.sum_congr rfl fun K _ => ?_
  rw [Ideal.div_coe (mul_pos Dpos lpos).ne', mul_right_comm]
  refine congrArg (· * V K) ?_
  unfold w2
  rw [← EReal.coe_mul, ← EReal.coe_mul]
  refine congrArg _ ?_
  field_simp

end Cert.Proof.Attn

end
-- ==== Proof.Row.lean ====
/-
  One row of queries at the exact instance: after every tile the maxima are a real number, the weights are powers of
  two against it, and the accumulator is the weighted values so far; so the row's result is the softmax of its scores
  against the values.
-/
module

public import proofs.«01_k».proof.Proof.Det
public import proofs.«01_k».proof.Proof.Softmax

@[expose] public section

set_option maxRecDepth 16384

noncomputable section

namespace Cert.Proof.Attn

section
open Idealize.ShloMosaic
open Side
variable [Side]

theorem ninf : Ideal.ofBits .f32 0xFF800000#32 = ⊥ := by simp [Ideal.ofBits, Ideal.ieee]

/-- A strip's new maxima at a row. -/
theorem newM_pw (mo b0 b1 b2 b3 : FVec Ideal S64x128 .f32) (a : Fin 64) (l : Fin 128) :
    newM mo b0 b1 b2 b3 (ix2 a l) = max (mo (ix2 a l)) (Finset.univ.fold max ⊥ fun u : Fin 128 =>
      max (max (max (b0 (ix2 a u)) (b1 (ix2 a u))) (b2 (ix2 a u))) (b3 (ix2 a u))) := by
  pointwise [newM]
  rw [ninf]

/-- The accumulator after a tile, at a place. -/
theorem ac_pw (v : S1x1x16384x128.Idx → Elt Ideal .bf16) (t : Fin 32) (p : FVec Ideal S512x512 .bf16) (a c : FVec Ideal S512x128 .f32) (i : Fin 512) (l : Fin 128) :
    ac v t p a c (ix2 i l) = c (ix2 i l) * a (ix2 i l) + ∑ u : Fin 512, p (ix2 i u) * tl v t (ix2 u l) := by
  pointwise [ac, dotPV]

/-- A tile's scores, at a place. -/
theorem sc_pw (q k : S1x1x16384x128.Idx → Elt Ideal .bf16) (j t : Fin 32) (i u : Fin 512) :
    sc q k j t (ix2 i u) = ∑ d : Fin 128, tl q j (ix2 i d) * tl k t (ix2 u d) := by
  pointwise [sc, dotQK]

/-- The accumulator over its normalising column, at a place. -/
theorem em_pw (w : BitVec 1) (c : FVec Ideal S512x128 .f32) (i : Fin 512) (l : Fin 128) :
    em w c (ix2 i l) = Ideal.div (c (ix2 i l)) (c (ix2 i (if w = 1#1 then 0 else 64))) := by
  have hw : w = 1#1 ∨ w = 0#1 := by revert w; decide
  rcases hw with rfl | rfl
  · pointwise [em]
  · pointwise [em]; rfl

end

open Idealize.ShloMosaic hiding ix2 ix4
open Idealize.ShloMosaic.ValueIdx (ix2 ix4)

variable [Side]
open Side

/-- A strip's new maxima at a row. -/
theorem newM_at (mo b0 b1 b2 b3 : FVec Ideal S64x128 .f32) (a : Fin 64) (l : Fin 128) :
    newM mo b0 b1 b2 b3 (ix2 a l) = max (mo (ix2 a l)) (Finset.univ.fold max ⊥ fun u : Fin 128 =>
      max (max (max (b0 (ix2 a u)) (b1 (ix2 a u))) (b2 (ix2 a u))) (b3 (ix2 a u))) := newM_pw mo b0 b1 b2 b3 a l

/-- The accumulator after a tile, at a place. -/
theorem ac_at (v : S1x1x16384x128.Idx → Elt Ideal .bf16) (t : Fin 32) (p : FVec Ideal S512x512 .bf16) (a c : FVec Ideal S512x128 .f32) (i : Fin 512) (l : Fin 128) :
    ac v t p a c (ix2 i l) = c (ix2 i l) * a (ix2 i l) + ∑ u : Fin 512, p (ix2 i u) * tl v t (ix2 u l) := ac_pw v t p a c i l

/-- A tile's scores, at a place. -/
theorem sc_at (q k : S1x1x16384x128.Idx → Elt Ideal .bf16) (j t : Fin 32) (i u : Fin 512) :
    sc q k j t (ix2 i u) = ∑ d : Fin 128, tl q j (ix2 i d) * tl k t (ix2 u d) := sc_pw q k j t i u

/-- The accumulator over its normalising column, at a place. -/
theorem em_at (w : BitVec 1) (c : FVec Ideal S512x128 .f32) (i : Fin 512) (l : Fin 128) :
    em w c (ix2 i l) = Ideal.div (c (ix2 i l)) (c (ix2 i (if w = 1#1 then 0 else 64))) := em_pw w c i l

/-- A tile's softmax at a row of finite scores, the old maximum `μ₀` not `⊤`. -/
theorem soft_row (ρ : FVec Ideal S64x128 .f32 → FVec Ideal S64x128 .f32) (x : FVec Ideal S512x512 .f32) (m : FVec Ideal S512x128 .f32) (i : Fin 512)
    (g : Fin 512 → ℝ) (hx : ∀ u, x (ix2 i u) = (g u : EReal)) (μ₀ : EReal) (h₀ : μ₀ ≠ ⊤)
    (hρ : ∀ l : Fin 128, ρ (mv m (sOf i)) (ix2 (rOf i) l) = μ₀) :
    ∃ μ : ℝ, (∀ l : Fin 128, nM ρ x m (ix2 i l) = (μ : EReal)) ∧ (∀ l : Fin 128, nA ρ x m (ix2 i l) = Ideal.exp2 (μ₀ - (μ : EReal)))
      ∧ ∀ u : Fin 512, nP ρ x m (ix2 i u) = w2 (g u - μ) := by
  have hb : ∀ (c : Fin 4) (u : Fin 128), ∃ r : ℝ, blkv x (sOf i) c (ix2 (rOf i) u) = (r : EReal) := by
    intro c u
    refine ⟨g ⟨128 * c.val + u.val, by omega⟩, ?_⟩
    rw [← hx]
    show x (ix2 _ _) = _
    refine congrArg x ?_
    congr 1
    exact Fin.ext (by show 64 * (i.val / 64) + i.val % 64 = i.val; omega)
  obtain ⟨r, hr⟩ := fold_real (by norm_num) (fun u : Fin 128 => max (max (max (blkv x (sOf i) 0 (ix2 (rOf i) u)) (blkv x (sOf i) 1 (ix2 (rOf i) u)))
    (blkv x (sOf i) 2 (ix2 (rOf i) u))) (blkv x (sOf i) 3 (ix2 (rOf i) u)))
    fun u => max_real (max_real (max_real (hb 0 u) (hb 1 u)) (hb 2 u)) (hb 3 u)
  obtain ⟨μ, hμ⟩ := max_real' h₀ ⟨r, rfl⟩
  have key : ∀ l : Fin 128, mxS ρ x m (sOf i) (ix2 (rOf i) l) = (μ : EReal) := by
    intro l
    unfold mxS
    rw [newM_at, hρ, ← hμ]
    exact congrArg (max μ₀) hr
  refine ⟨μ, key, fun l => ?_, fun u => ?_⟩
  · show Ideal.exp2 (ρ (mv m (sOf i)) (ix2 (rOf i) l) - mxS ρ x m (sOf i) (ix2 (rOf i) l)) = _
    rw [key, hρ]
  · show Ideal.exp2 (blkv x (sOf i) (bOf u) (ix2 (rOf i) (cOf u)) - mxS ρ x m (sOf i) (ix2 (rOf i) (cOf u))) = _
    rw [key, ← w2_eq, EReal.coe_sub, ← hx]
    show Ideal.exp2 (x (ix2 _ _) - _) = _
    congr 2
    refine congrArg x ?_
    congr 1
    · exact Fin.ext (by show 64 * (i.val / 64) + i.val % 64 = i.val; omega)
    · exact Fin.ext (by show 128 * (u.val / 128) + u.val % 128 = u.val; omega)

/-- Value tile `t`, row `u`, column `l`. -/
def Vt (v : S1x1x16384x128.Idx → Elt Ideal .bf16) (l : Fin 128) (t : ℕ) (u : Fin 512) : EReal := tl v (tn t) (ix2 u l)

/-- A row after its tile `n`: a real maximum, the tile's weights against it, the accumulator's rescaled value the
    weighted values of the tiles before. -/
def Inv (v : S1x1x16384x128.Idx → Elt Ideal .bf16) (f : ℕ → Fin 512 → ℝ) (i : Fin 512) (n : ℕ) (L : Lg Ideal) : Prop :=
  ∃ μ : ℝ, (∀ l : Fin 128, L.m (ix2 i l) = (μ : EReal)) ∧ (∀ u : Fin 512, L.p (ix2 i u) = w2 (f n u - μ))
    ∧ ∀ l : Fin 128, L.c (ix2 i l) * L.a (ix2 i l) = G f (Vt v l) μ n

theorem ac_G (v f i n) (L : Lg Ideal) {μ : ℝ} (hp : ∀ u : Fin 512, L.p (ix2 i u) = w2 (f n u - μ))
    (hc : ∀ l : Fin 128, L.c (ix2 i l) * L.a (ix2 i l) = G f (Vt v l) μ n) (l : Fin 128) :
    ac v (tn n) L.p L.a L.c (ix2 i l) = G f (Vt v l) μ (n + 1) := by
  rw [ac_at, hc, G_succ]
  refine congrArg _ (Finset.sum_congr rfl fun u _ => ?_)
  rw [hp]; rfl

/-- The row's first tile: what was there before is forgotten. -/
theorem inv_first (v f i) (t : Fin 32) (x' : FVec Ideal S512x512 .f32) (L : Lg Ideal) (hx : ∀ u : Fin 512, L.x (ix2 i u) = ((f 0 u : ℝ) : EReal)) :
    Inv v f i 0 (stepL (restartM 1#1) v t x' L) := by
  obtain ⟨μ, h1, h2, h3⟩ := soft_row (restartM 1#1) L.x L.m i (f 0) hx ⊥ bot_ne_top (fun l => by
    show Ideal.ofBits .f32 0xFF800000#32 = ⊥
    exact ninf)
  refine ⟨μ, h1, h3, fun l => ?_⟩
  show ac v t L.p L.a L.c (ix2 i l) * nA (restartM 1#1) L.x L.m (ix2 i l) = _
  rw [h2, EReal.bot_sub, Ideal.exp2_bot, mul_zero]
  rfl

/-- A later tile. -/
theorem inv_step (v f i n) (x' : FVec Ideal S512x512 .f32) (L : Lg Ideal) (hx : ∀ u : Fin 512, L.x (ix2 i u) = ((f (n + 1) u : ℝ) : EReal)) (h : Inv v f i n L) :
    Inv v f i (n + 1) (stepL (fun x => x) v (tn n) x' L) := by
  obtain ⟨μ₀, hm, hp, hc⟩ := h
  obtain ⟨μ, h1, h2, h3⟩ := soft_row (fun x => x) L.x L.m i (f (n + 1)) hx (μ₀ : EReal) (EReal.coe_ne_top _) (fun l => by
    rw [← hm l]
    refine congrArg L.m ?_
    show ix2 _ _ = _
    congr 1
    exact Fin.ext (by show 64 * (i.val / 64) + i.val % 64 = i.val; omega))
  refine ⟨μ, h1, h3, fun l => ?_⟩
  show ac v (tn n) L.p L.a L.c (ix2 i l) * nA (fun x => x) L.x L.m (ix2 i l) = _
  rw [h2, ac_G v f i n L hp hc, ← EReal.coe_sub, w2_eq, G_scale]

section
variable (q k v : S1x1x16384x128.Idx → Elt Ideal .bf16) (j : Fin 32) (f : ℕ → Fin 512 → ℝ) (i : Fin 512)
  (hf : ∀ (t : ℕ) (u : Fin 512), sc q k j (tn t) (ix2 i u) = ((f t u : ℝ) : EReal))
include hf

theorem inv_tiles (L : Lg Ideal) (hL : L.x = sc q k j (tn 1)) (h : Inv v f i 0 L) :
    ∀ n, Inv v f i n (tilesL q k v j L n) ∧ (tilesL q k v j L n).x = sc q k j (tn (n + 1))
  | 0 => ⟨h, hL⟩
  | n + 1 => by
    have ih := inv_tiles L hL h n
    exact ⟨inv_step v f i n _ _ (fun u => by rw [ih.2]; exact hf _ u) ih.1, rfl⟩

theorem inv_row (L : Lg Ideal) (hL : L.x = sc q k j (tn 0)) : Inv v f i 31 (rowL q k v j L) := by
  have h := inv_tiles q k v j f i hf (stepL (restartM 1#1) v 31 (sc q k j 1) L) rfl
    (inv_first v f i 31 _ L fun u => by rw [hL]; exact hf 0 u) 30
  exact inv_step v f i 30 _ _ (fun u => by rw [h.2]; exact hf _ u) h.1
end

/-- The scores at hand when row `j` begins are its first tile's. -/
theorem rows_x (q k v : S1x1x16384x128.Idx → Elt Ideal .bf16) : ∀ j : ℕ, j < 32 → (rowsL q k v j).x = sc q k (tn j) (tn 0)
  | 0, _ => rfl
  | j + 1, h => by
    show sc q k ⟨min ((tn j).val + 1) 31, _⟩ 0 = _
    congr 1
    exact Fin.ext (by show min (j % 32 + 1) 31 = (j + 1) % 32; omega)

/-- The result's block at a place: the softmax of the row's scores, scaled by `log 2`, against the values. -/
theorem outB_at (q k v : S1x1x16384x128.Idx → Elt Ideal .bf16) (w : BitVec 1)
    (hv : ∀ K : Fin 16384, v (ix4 (0 : Fin 1) (0 : Fin 1) K (if w = 1#1 then (0 : Fin 128) else 64)) = (1 : EReal))
    (r : Fin 16384) (l : Fin 128) (s : Fin 16384 → ℝ)
    (hs : ∀ K : Fin 16384, (∑ d : Fin 128, (q (ix4 (0 : Fin 1) (0 : Fin 1) r d) : EReal) * k (ix4 (0 : Fin 1) (0 : Fin 1) K d)) = (s K : EReal)) (M : ℝ) :
    outB q k v w (ix4 (0 : Fin 1) (0 : Fin 1) r l)
      = ∑ K : Fin 16384, Ideal.div (Ideal.exp ((s K : EReal) * (Real.log 2 : ℝ) - (M : EReal))) (0 + ∑ K', Ideal.exp ((s K' : EReal) * (Real.log 2 : ℝ) - (M : EReal)))
          * (v (ix4 (0 : Fin 1) (0 : Fin 1) K l) : EReal) := by
  have hr : r.val / 512 < 32 := by omega
  set i : Fin 512 := ⟨r.val % 512, Nat.mod_lt _ (by omega)⟩ with hi
  set j : Fin 32 := tn (r.val / 512) with hj
  let f : ℕ → Fin 512 → ℝ := fun t u => s ⟨512 * (tn t).val + u.val, by have := (tn t).isLt; omega⟩
  have hf : ∀ (t : ℕ) (u : Fin 512), sc q k j (tn t) (ix2 i u) = ((f t u : ℝ) : EReal) := by
    intro t u
    rw [sc_at, ← hs]
    refine Finset.sum_congr rfl fun d _ => ?_
    have e : (⟨512 * j.val + i.val, by omega⟩ : Fin 16384) = r := Fin.ext (by show 512 * (r.val / 512 % 32) + r.val % 512 = r.val; omega)
    show (q (ix4 0 0 (⟨512 * j.val + i.val, _⟩ : Fin 16384) d) : EReal) * k (ix4 0 0 _ d) = _
    rw [e]
  have hI : Inv v f i 31 (rowsL q k v (r.val / 512 + 1)) := inv_row q k v j f i hf _ (rows_x q k v _ hr)
  obtain ⟨μ, -, hp, hc⟩ := hI
  have e : ∀ l' : Fin 128, ac v 31 (rowsL q k v (r.val / 512 + 1)).p (rowsL q k v (r.val / 512 + 1)).a (rowsL q k v (r.val / 512 + 1)).c (ix2 i l') = G f (Vt v l') μ 32 :=
    fun l' => ac_G v f i 31 _ hp hc l'
  show em w _ (ix2 i l) = _
  rw [em_at, e, e]
  exact softmax_ratio s (fun K => v (ix4 0 0 K l)) f (Vt v l) (Vt v _) (fun t u => by
      show _ = s _
      exact congrArg s (Fin.ext (by show 512 * t.val + u.val = 512 * (t.val % 32) + u.val; omega)))
    (fun t u => by
      show v (ix4 0 0 _ l) = v (ix4 0 0 _ l)
      exact congrArg (fun z => v (ix4 0 0 z l)) (Fin.ext (by show 512 * t.val + u.val = 512 * (t.val % 32) + u.val; omega)))
    (fun t u => hv _) μ M

end Cert.Proof.Attn

end
-- ==== Proof.Refer.lean ====
/-
  The reference at the exact instance, read at a place: the softmax of the row's scores, scaled by `log 2`, against the
  values.
-/
module

public import proofs.«01_k».proof.Proof.Gen.ReferenceIdeal.Run
public import proofs.«01_k».proof.Proof.Softmax

@[expose] public section

set_option maxRecDepth 16384

noncomputable section

namespace Cert.ReferenceIdeal.Value

open Cert.ReferenceIdeal Cert.ReferenceIdeal.Gen Idealize.ShloMosaic

/-- The scaled scores. -/
def sS (Q K : FVec Ideal S2x8x16384x128 .bf16) : FVec Ideal S2x8x16384x16384 .f32 :=
  mulf (Host.dotGeneral dot_S2x8x16384x128_S2x8x16384x128_S2x8x16384x16384_3_3_2_2_01_01 none Q K) (broadcastInDim S2x8x16384x16384 ![] bcast_S_S2x8x16384x16384 (Host.log (constant S_ .f32 0x40000000#32)))

/-- Each row's largest. -/
def sM (S : FVec Ideal S2x8x16384x16384 .f32) : FVec Ideal S2x8x16384 .f32 :=
  maximumf (broadcastInDim S2x8x16384 ![] bcast_S_S2x8x16384 (constant S_ .f32 0xFF800000#32)) (Host.reduce FloatOps.maximumf S (constant S_ .f32 0xFF800000#32) reducesTo_S2x8x16384x16384_S2x8x16384_d3 h_S_)

/-- A row's number at each of its places. -/
def sB (z : FVec Ideal S2x8x16384 .f32) : FVec Ideal S2x8x16384x16384 .f32 :=
  broadcastInDim S2x8x16384x16384 ![0, 1, 2, 3] bcast_S2x8x16384x1_S2x8x16384x16384_0_1_2_3 (broadcastInDim S2x8x16384x1 ![0, 1, 2] bcast_S2x8x16384_S2x8x16384x1_0_1_2 z)

/-- The exponentials. -/
def sE (S : FVec Ideal S2x8x16384x16384 .f32) : FVec Ideal S2x8x16384x16384 .f32 := Host.exp (subf S (sB (sM S)))

/-- Each row's sum. -/
def sD (E : FVec Ideal S2x8x16384x16384 .f32) : FVec Ideal S2x8x16384 .f32 :=
  Host.reduceAdd E (constant S_ .f32 0x00000000#32) reducesTo_S2x8x16384x16384_S2x8x16384_d3 h_S_

/-- The exponentials over their sums, against the values. -/
def sO (E : FVec Ideal S2x8x16384x16384 .f32) (V : FVec Ideal S2x8x16384x128 .bf16) : FVec Ideal S2x8x16384x128 .f32 :=
  Host.dotGeneral dot_S2x8x16384x16384_S2x8x16384x128_S2x8x16384x128_3_2_2_3_01_01 none (truncf .bf16 (Host.divf E (sB (sD E))) bitsLt_bf16_f32 : FVec Ideal S2x8x16384x16384 .bf16) V

/-- The reference's result, of its three arguments. -/
def REF (Q K V : FVec Ideal S2x8x16384x128 .bf16) : FVec Ideal S2x8x16384x128 .bf16 := truncf .bf16 (sO (sE (sS Q K)) V) bitsLt_bf16_f32

/-- The score of query `r` against key `x`, of head `(b, h)`. -/
def scoreAt (Q K : FVec Ideal S2x8x16384x128 .bf16) (b : Fin 2) (h : Fin 8) (r x : Fin 16384) : EReal :=
  ∑ d : Fin 128, Q (ix4 b h r d) * K (ix4 b h x d)

/-- The largest of a row's scores, scaled. -/
def topAt (Q K : FVec Ideal S2x8x16384x128 .bf16) (b : Fin 2) (h : Fin 8) (r : Fin 16384) : EReal :=
  max ⊥ (Finset.univ.fold max ⊥ fun x : Fin 16384 => scoreAt Q K b h r x * (Real.log 2 : ℝ))

theorem ninf : Ideal.ofBits .f32 0xFF800000#32 = ⊥ := by simp [Ideal.ofBits, Ideal.ieee]
theorem two : Ideal.log (Ideal.ofBits .f32 0x40000000#32) = ((Real.log 2 : ℝ) : EReal) := by
  have e : Ideal.ofBits .f32 0x40000000#32 = ((2 : ℝ) : EReal) := by simp [Ideal.ofBits, Ideal.ieee, -EReal.coe_mul]; norm_num
  rw [e, Ideal.log_coe, if_neg (by norm_num)]

theorem sS_at (Q K : FVec Ideal S2x8x16384x128 .bf16) (b : Fin 2) (h : Fin 8) (r x : Fin 16384) :
    sS Q K (ix4 b h r x) = scoreAt Q K b h r x * (Real.log 2 : ℝ) := by
  rw [← two]
  pointwise [sS, scoreAt]

theorem sR_at (S : FVec Ideal S2x8x16384x16384 .f32) (b : Fin 2) (h : Fin 8) (r : Fin 16384) :
    Host.reduce FloatOps.maximumf S (constant S_ .f32 0xFF800000#32) reducesTo_S2x8x16384x16384_S2x8x16384_d3 h_S_ (ix3 b h r) = Finset.univ.fold max (Ideal.ofBits .f32 0xFF800000#32) fun x : Fin 16384 => S (ix4 b h r x) := by
  pointwise []

theorem sC_at (b : Fin 2) (h : Fin 8) (r : Fin 16384) :
    (broadcastInDim S2x8x16384 ![] bcast_S_S2x8x16384 (constant S_ .f32 0xFF800000#32) : FVec Ideal S2x8x16384 .f32) (ix3 b h r) = Ideal.ofBits .f32 0xFF800000#32 := by
  pointwise []

theorem max_at {s : Shape} (x y : FVec Ideal s .f32) (i : s.Idx) : maximumf x y i = max (x i) (y i) := rfl

theorem sM_at (S : FVec Ideal S2x8x16384x16384 .f32) (b : Fin 2) (h : Fin 8) (r : Fin 16384) :
    sM S (ix3 b h r) = max ⊥ (Finset.univ.fold max ⊥ fun x : Fin 16384 => S (ix4 b h r x)) := by
  unfold sM
  rw [max_at, sC_at, sR_at, ninf]

theorem sB_at (z : FVec Ideal S2x8x16384 .f32) (b : Fin 2) (h : Fin 8) (r x : Fin 16384) : sB z (ix4 b h r x) = z (ix3 b h r) := by
  pointwise [sB]

theorem sE_at (S : FVec Ideal S2x8x16384x16384 .f32) (b : Fin 2) (h : Fin 8) (r x : Fin 16384) :
    sE S (ix4 b h r x) = Ideal.exp (S (ix4 b h r x) - sM S (ix3 b h r)) := by
  show Ideal.exp (S (ix4 b h r x) - sB (sM S) (ix4 b h r x)) = _
  rw [sB_at]

theorem sD_at (E : FVec Ideal S2x8x16384x16384 .f32) (b : Fin 2) (h : Fin 8) (r : Fin 16384) :
    sD E (ix3 b h r) = 0 + ∑ x : Fin 16384, E (ix4 b h r x) := by
  pointwise [sD]

theorem sO_at (E : FVec Ideal S2x8x16384x16384 .f32) (V : FVec Ideal S2x8x16384x128 .bf16) (b : Fin 2) (h : Fin 8) (r : Fin 16384) (l : Fin 128) :
    sO E V (ix4 b h r l) = ∑ x : Fin 16384, Ideal.div (E (ix4 b h r x)) (sB (sD E) (ix4 b h r x)) * V (ix4 b h x l) := by
  unfold sO
  generalize sB (sD E) = z
  pointwise []

/-- The reference at a place. -/
theorem ref_at (Q K V : FVec Ideal S2x8x16384x128 .bf16) (b : Fin 2) (h : Fin 8) (r : Fin 16384) (l : Fin 128) :
    REF Q K V (ix4 b h r l) = ∑ x : Fin 16384, Ideal.div (Ideal.exp (scoreAt Q K b h r x * (Real.log 2 : ℝ) - topAt Q K b h r))
      (0 + ∑ y : Fin 16384, Ideal.exp (scoreAt Q K b h r y * (Real.log 2 : ℝ) - topAt Q K b h r)) * V (ix4 b h x l) := by
  show sO (sE (sS Q K)) V (ix4 b h r l) = _
  have e : ∀ x, sE (sS Q K) (ix4 b h r x) = Ideal.exp (scoreAt Q K b h r x * (Real.log 2 : ℝ) - topAt Q K b h r) := by
    intro x
    rw [sE_at, sS_at, sM_at]
    simp only [sS_at]
    rfl
  rw [sO_at]
  refine Finset.sum_congr rfl fun x _ => ?_
  rw [sB_at, sD_at, e]
  simp only [e]

end Cert.ReferenceIdeal.Value

end
-- ==== Proof.Point.lean ====
/-
  One head's block: where the queries and keys are finite and the head's normalising column of the values is ones, the
  kernel's block is the reference's.
-/
module

public import proofs.«01_k».proof.Proof.Row
public import proofs.«01_k».proof.Proof.Refer
public import proofs.«01_k».proof.Proof.Gen.Pre_finite_and_ones

@[expose] public section

set_option maxRecDepth 16384

noncomputable section

namespace Cert.Proof.Attn

open Idealize.ShloMosaic
open Cert.ReferenceIdeal.Value (REF scoreAt topAt ref_at)
open Cert.ReferenceIdeal (S2x8x16384x128)

/-! ## The precondition, read -/

theorem fin_of_abs (x : EReal) (h : max x (-x) < ⊤) : ∃ r : ℝ, x = (r : EReal) := by
  induction x with
  | bot => exact absurd h (by simp)
  | top => exact absurd h (by simp)
  | coe r => exact ⟨r, rfl⟩

theorem pinf : Ideal.ofBits .f32 0x7F800000#32 = ⊤ := by simp [Ideal.ofBits, Ideal.ieee]

theorem and_one (x y : BitVec 1) (h : IntOp.andi x y = 1#1) : x = 1#1 ∧ y = 1#1 := by revert x y; decide
theorem or_zero (x y : BitVec 1) (h : IntOp.ori x y = 1#1) (hy : y = 0#1) : x = 1#1 := by revert x y; decide
theorem of_bool (p : Prop) [Decidable p] (h : BitVec.ofBool (decide p) = 1#1) : p := by
  by_contra hp
  rw [decide_eq_false hp] at h
  exact absurd h (by decide)

/-- The lane the normalising column of head `n` is in. -/
def lane (n : Fin 8) : Fin 128 := if BitVec.ofNat 1 n.val = 1#1 then 0 else 64

theorem lane_ne (n : Fin 8) : (~~~IntOp.cmpi CmpIPredicate.eq (BitVec.ofNat 32 (lane n).val)
    (Scalar.select (IntOp.cmpi CmpIPredicate.eq (IntOp.andi (BitVec.ofNat 32 n.val) 1#32) 1#32) 0#32 64#32)) = 0#1 := by
  revert n; decide +kernel

/-- Where the precondition holds the queries and keys are real and each head's normalising column is ones. -/
theorem pre_at (Q K V : FVec Ideal S2x8x16384x128 .bf16) (h : Cert.Pre_finite_and_ones.fn (F := Ideal) Q K V = fun _ => 1#1)
    (b : Fin 2) (n : Fin 8) (r : Fin 16384) (l : Fin 128) :
    (∃ x : ℝ, Q (ix4 b n r l) = (x : EReal)) ∧ (∃ x : ℝ, K (ix4 b n r l) = (x : EReal)) ∧ (l = lane n → V (ix4 b n r l) = 1) := by
  have e := congrFun h (ix4 b n r l)
  pointwise [Cert.Pre_finite_and_ones.fn, Cert.Pre_finite_and_ones.fn_part1, Cert.Pre_finite_and_ones.fn_where] at e
  rw [id_eq] at e
  pointwise [] at e
  rw [pinf] at e
  obtain ⟨e1, e2⟩ := and_one _ _ e
  obtain ⟨e3, e4⟩ := and_one _ _ e1
  refine ⟨fin_of_abs _ (of_bool _ e3), fin_of_abs _ (of_bool _ e4), fun hl => ?_⟩
  subst hl
  exact of_bool _ (or_zero _ _ e2 (lane_ne n))

/-! ## The block -/

theorem prod_real {a b : EReal} (ha : ∃ x : ℝ, a = (x : EReal)) (hb : ∃ x : ℝ, b = (x : EReal)) : ∃ x : ℝ, a * b = (x : EReal) := by
  obtain ⟨x, rfl⟩ := ha
  obtain ⟨y, rfl⟩ := hb
  exact ⟨x * y, (EReal.coe_mul x y).symm⟩

theorem sums_real {n : ℕ} (g : Fin n → EReal) (hg : ∀ u, ∃ r : ℝ, g u = (r : EReal)) : ∃ r : ℝ, ∑ u, g u = (r : EReal) := by
  choose f hf using hg
  exact ⟨∑ u, f u, by rw [← sum_real]; exact Finset.sum_congr rfl fun u _ => hf u⟩

variable [Side]

/-- The kernel's block of head `(b, n)` is the reference's. -/
theorem point (Q K V : FVec Ideal S2x8x16384x128 .bf16) (h : Cert.Pre_finite_and_ones.fn (F := Ideal) Q K V = fun _ => 1#1)
    (b : Fin 2) (n : Fin 8) (q k v : S1x1x16384x128.Idx → Elt Ideal .bf16)
    (hq : ∀ (r : Fin 16384) (l : Fin 128), q (ValueIdx.ix4 (0 : Fin 1) (0 : Fin 1) r l) = Q (ix4 b n r l))
    (hk : ∀ (r : Fin 16384) (l : Fin 128), k (ValueIdx.ix4 (0 : Fin 1) (0 : Fin 1) r l) = K (ix4 b n r l))
    (hv : ∀ (r : Fin 16384) (l : Fin 128), v (ValueIdx.ix4 (0 : Fin 1) (0 : Fin 1) r l) = V (ix4 b n r l))
    (r : Fin 16384) (l : Fin 128) :
    outB q k v (BitVec.ofNat 1 n.val) (ValueIdx.ix4 (0 : Fin 1) (0 : Fin 1) r l) = REF Q K V (ix4 b n r l) := by
  have hS : ∀ x : Fin 16384, ∃ s : ℝ, scoreAt Q K b n r x = (s : EReal) := fun x =>
    sums_real _ fun d => prod_real (pre_at Q K V h b n r d).1 (pre_at Q K V h b n x d).2.1
  choose s hs using hS
  have hM : ∃ M : ℝ, topAt Q K b n r = (M : EReal) := by
    unfold topAt
    exact max_real' bot_ne_top (fold_real (by omega) _ fun x => prod_real ⟨s x, hs x⟩ ⟨_, rfl⟩)
  obtain ⟨M, hM⟩ := hM
  rw [outB_at q k v (BitVec.ofNat 1 n.val) (fun x => (hv x _).trans ((pre_at Q K V h b n x _).2.2 rfl)) r l s (fun x => by
    rw [← hs x]
    unfold scoreAt
    refine Finset.sum_congr rfl fun d _ => ?_
    rw [hq, hk]) M, ref_at, hM]
  simp only [hs, hv]

end Cert.Proof.Attn

end
-- ==== Proof.Value.lean ====
/-
  The call's result array: block by block the reference's.
-/
module

public import proofs.«01_k».proof.Proof.KernelIdealFrame
public import proofs.«01_k».proof.Proof.Point
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Gen.Attn

open Cert.KernelIdeal Cert.KernelIdeal.Gen
open Cert.ReferenceIdeal.Value (REF)

variable (m : (ℓ : Loc nD τ sig) → Buf (Elt Ideal) ℓ)

/-- Every window's block at a point is the point's batch and head. -/
theorem idx : ∀ t : Fin cfg0.N, win0_0.index t = ![(grid0.coords t 0).val, (grid0.coords t 1).val, 0, 0]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 1).val, 0, 0] :=
  (by decide +kernel : ∀ t : Fin grid0.N, _)

/-- The head of a point. -/
abbrev hd (t : Fin cfg0.N) : Fin 8 := grid0.coords t 1
/-- The batch of a point. -/
abbrev bt (t : Fin cfg0.N) : Fin 2 := grid0.coords t 0

theorem iblk0 (c : Dev nD) (t : Fin cfg0.N) (r : Fin 16384) (l : Fin 128) :
    iblk m c 0 t (ValueIdx.ix4 (0 : Fin 1) (0 : Fin 1) r l) = m ((c : Thread nD τ).loc main_arg0) (ix4 (bt t) (hd t) r l) := by
  blk_ext [iblk, V, idx t]
theorem iblk1 (c : Dev nD) (t : Fin cfg0.N) (r : Fin 16384) (l : Fin 128) :
    iblk m c 1 t (ValueIdx.ix4 (0 : Fin 1) (0 : Fin 1) r l) = m ((c : Thread nD τ).loc main_arg1) (ix4 (bt t) (hd t) r l) := by
  blk_ext [iblk, V, idx t]
theorem iblk2 (c : Dev nD) (t : Fin cfg0.N) (r : Fin 16384) (l : Fin 128) :
    iblk m c 2 t (ValueIdx.ix4 (0 : Fin 1) (0 : Fin 1) r l) = m ((c : Thread nD τ).loc main_arg2) (ix4 (bt t) (hd t) r l) := by
  blk_ext [iblk, V, idx t]

theorem emb3 (t : Fin cfg0.N) (r : Fin 16384) (l : Fin 128) :
    ((cfg0.win 3).blk t).view.emb (ValueIdx.ix4 (0 : Fin 1) (0 : Fin 1) r l) = ix4 (bt t) (hd t) r l := by
  blk_ext [idx t]

/-- The result array after the run is the reference's result, where the precondition holds. -/
theorem final (c : Dev nD) (h : Cert.Pre_finite_and_ones.fn (F := Ideal) (m ((c : Thread nD τ).loc main_arg0)) (m ((c : Thread nD τ).loc main_arg1)) (m ((c : Thread nD τ).loc main_arg2)) = fun _ => 1#1) :
    (dats m 0 c).arrAt 3 (cfgs 0).N
      = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  obtain ⟨a, b, r, l, rfl⟩ : ∃ (a b : Fin 1) (r : Fin 16384) (l : Fin 128), y = ValueIdx.ix4 a b r l := ⟨y 0, y 1, y 2, y 3, ValueIdx.eq_ix4 y⟩
  obtain rfl : a = 0 := Fin.ext (by omega)
  obtain rfl : b = 0 := Fin.ext (by omega)
  refine (Cert.Proof.Attn.point _ _ _ h (bt t) (hd t) _ _ _ (iblk0 m c t) (iblk1 m c t) (iblk2 m c t) r l).trans ?_
  exact congrArg _ (emb3 t r l).symm

end Cert.KernelIdeal.Gen.Attn

end
-- ==== Proof.lean ====
/-
  The proof of `Cert.Claim` (Defs.lean): the two frames of the kernel, the reference's, and the equality of the results
  at the exact instance.
-/
module

public import proofs.«01_k».proof.Defs
public import proofs.«01_k».proof.Proof.KernelFrame
public import proofs.«01_k».proof.Proof.KernelIdealFrame
public import proofs.«01_k».proof.Proof.Value
public import proofs.«01_k».proof.Proof.Gen.ReferenceIdeal.Run
public import proofs.«01_k».proof.Proof.Gen.Pre_finite_and_ones
public import Idealize.ShloMosaic.Lib.Quiescent
public import Idealize.ShloMosaic.Lib.Claim

@[expose] public section

set_option maxRecDepth 16384

noncomputable section

namespace Cert.Proof

open Idealize.ShloMosaic Idealize.SL.Sem

/-- Every fair execution of the kernel terminates, its arguments unchanged and its counters at zero. -/
theorem frame_kernel : Cert.quiescent_Kernel := fun m g _ => Cert.Kernel.Gen.Attn.frame (F := Bits) m g

/-- So does every one of the kernel at the exact instance. -/
theorem frame_ideal : Cert.quiescent_KernelIdeal := fun m g _ => Cert.KernelIdeal.Gen.Attn.frame (F := Ideal) m g

/-- And every one of the reference. -/
theorem frame_reference : Cert.quiescent_ReferenceIdeal := fun m g _ =>
  θ_run_mono (Cert.ReferenceIdeal.Value.run (F := Ideal) m g) fun r h => ⟨fun c => (h c).2, sem_eq_zero_of_no_sems rfl r.2⟩

section
open Cert.ReferenceIdeal Cert.ReferenceIdeal.Value

/-- The reference's run: its result is `REF` of its three arguments, which it leaves unchanged. -/
theorem run_reference (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v17) = REF (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  unfold REF sO sD sE sM sS sB
  exact run m g
end

section
open Cert.KernelIdeal Cert.KernelIdeal.Gen

/-- The kernel's run at the exact instance, where the precondition holds: its result is `REF` of its three arguments,
    which it leaves unchanged. -/
theorem run_kernel (m : (ℓ : Loc nD τ sig) → Buf (Elt Ideal) ℓ) (g : Dev nD → PrngReg) (hpre : Cert.Pre_KernelIdeal_finite_and_ones m) :
    θ_run (defs (F := Ideal)) (onTc (τ := τ) (main (F := Ideal))) ⟨m, fun _ => 0, g⟩ fun r => ∀ c : Dev nD,
      r.2.mem ((c.tc : Thread nD τ).loc main_v0) = Cert.ReferenceIdeal.Value.REF (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (θ_run_and (Attn.run_main (F := Ideal) m g) (Attn.frame (F := Ideal) m g)) fun r h c =>
    ⟨((h.1.1 c).1 3).trans (Attn.final m c (hpre c)), h.2.1 c⟩
end

/-- From memories that agree on the arguments, the precondition holding of them, kernel and reference end with equal
    results and their arguments unchanged. -/
theorem algebraic : Cert.algebraic_KernelIdeal_ReferenceIdeal_pre_finite_and_ones := by
  intro m g m' g' hpre hagree
  refine ⟨fun c => Cert.ReferenceIdeal.Value.REF (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), run_kernel m g hpre, ?_⟩
  refine θ_run_mono (run_reference m' g') fun r h c => ⟨(h c).1.trans ?_, (h c).2⟩
  obtain ⟨h0, h1, h2⟩ := hagree c
  rw [h0, h1, h2]

/-- The certificate. -/
theorem claim : Cert.Claim :=
  ⟨Cert.Kernel.Gen.facts, Cert.KernelIdeal.Gen.facts, Cert.ReferenceIdeal.Gen.facts, Cert.Pre_finite_and_ones.Gen.facts,
    frame_kernel, frame_ideal, fun m g _ => frame_ideal m g trivial, frame_reference, fun m g _ => frame_reference m g trivial,
    trivial, algebraic⟩

end Cert.Proof

end
